-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x672x50x50 : Shape := ⟨4, ![4, 672, 50, 50]⟩
abbrev S4x32x50x50 : Shape := ⟨4, ![4, 32, 50, 50]⟩
abbrev S4x672x2500 : Shape := ⟨3, ![4, 672, 2500]⟩
abbrev S4x32x2500 : Shape := ⟨3, ![4, 32, 2500]⟩
abbrev S4x48x2500 : Shape := ⟨3, ![4, 48, 2500]⟩
abbrev S1x672x2500 : Shape := ⟨3, ![1, 672, 2500]⟩
abbrev S1x32x2500 : Shape := ⟨3, ![1, 32, 2500]⟩
abbrev S1x48x2500 : Shape := ⟨3, ![1, 48, 2500]⟩
abbrev S1x80x2500 : Shape := ⟨3, ![1, 80, 2500]⟩
abbrev S80x2500 : Shape := ⟨2, ![80, 2500]⟩
abbrev S2500 : Shape := ⟨1, ![2500]⟩
abbrev S1x2500 : Shape := ⟨2, ![1, 2500]⟩
abbrev S1x1x2500 : Shape := ⟨3, ![1, 1, 2500]⟩
abbrev S4x6x20000 : Shape := ⟨3, ![4, 6, 20000]⟩
abbrev S4x8x2500 : Shape := ⟨3, ![4, 8, 2500]⟩
abbrev S4x2500x8 : Shape := ⟨3, ![4, 2500, 8]⟩
abbrev S4x20000 : Shape := ⟨2, ![4, 20000]⟩
abbrev S4x1000 : Shape := ⟨2, ![4, 1000]⟩
abbrev S_ : Shape := ⟨0, ![]⟩
abbrev S4x1x1000 : Shape := ⟨3, ![4, 1, 1000]⟩
abbrev S4x1000x1 : Shape := ⟨3, ![4, 1000, 1]⟩
abbrev S1 : Shape := ⟨1, ![1]⟩
abbrev S1x1x1 : Shape := ⟨3, ![1, 1, 1]⟩
abbrev S4x6x1000 : Shape := ⟨3, ![4, 6, 1000]⟩
abbrev S4x8x1024 : Shape := ⟨3, ![4, 8, 1024]⟩
abbrev S2 : Shape := ⟨1, ![2]⟩
abbrev S4x1024x128 : Shape := ⟨3, ![4, 1024, 128]⟩
abbrev S4x1000x6 : Shape := ⟨3, ![4, 1000, 6]⟩
abbrev S4x304x128 : Shape := ⟨3, ![4, 304, 128]⟩
abbrev S4x1024x1024 : Shape := ⟨3, ![4, 1024, 1024]⟩
abbrev S1x1x1024 : Shape := ⟨3, ![1, 1, 1024]⟩
abbrev S1x1024 : Shape := ⟨2, ![1, 1024]⟩
abbrev S1x128x1 : Shape := ⟨3, ![1, 128, 1]⟩
abbrev S128x1 : Shape := ⟨2, ![128, 1]⟩
abbrev S128x1024 : Shape := ⟨2, ![128, 1024]⟩
abbrev S1x128x1024 : Shape := ⟨3, ![1, 128, 1024]⟩
abbrev S4x1024 : Shape := ⟨2, ![4, 1024]⟩
abbrev S4 : Shape := ⟨1, ![4]⟩
abbrev S4x1 : Shape := ⟨2, ![4, 1]⟩
abbrev S1024x1024 : Shape := ⟨2, ![1024, 1024]⟩
abbrev S304x1024 : Shape := ⟨2, ![304, 1024]⟩
abbrev S1x1024x128 : Shape := ⟨3, ![1, 1024, 128]⟩
abbrev S1024x128 : Shape := ⟨2, ![1024, 128]⟩
abbrev S304x128 : Shape := ⟨2, ![304, 128]⟩
abbrev S1x304x128 : Shape := ⟨3, ![1, 304, 128]⟩
abbrev S4x300x6 : Shape := ⟨3, ![4, 300, 6]⟩

abbrev nBuf : Space → Nat
  | .hbm => 98
  | .vmem => 10
  | .smem => 0
  | _ => 0

abbrev bufTy : (tb : Table) → Fin (tcTables nBuf tb) → BufTy
  | .hbm, ⟨0, _⟩ => ⟨S4x672x50x50, .f32⟩
  | .hbm, ⟨1, _⟩ => ⟨S4x32x50x50, .f32⟩
  | .hbm, ⟨2, _⟩ => ⟨S4x672x2500, .f32⟩
  | .hbm, ⟨3, _⟩ => ⟨S4x32x2500, .f32⟩
  | .hbm, ⟨4, _⟩ => ⟨S4x48x2500, .f32⟩
  | .hbm, ⟨5, _⟩ => ⟨S4x6x20000, .f32⟩
  | .hbm, ⟨6, _⟩ => ⟨S4x8x2500, .f32⟩
  | .hbm, ⟨7, _⟩ => ⟨S4x2500x8, .f32⟩
  | .hbm, ⟨8, _⟩ => ⟨S4x20000, .f32⟩
  | .hbm, ⟨9, _⟩ => ⟨S4x1000, .f32⟩
  | .hbm, ⟨10, _⟩ => ⟨S4x1000, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S4x1000, .i32⟩
  | .hbm, ⟨18, _⟩ => ⟨S4x1000, .i32⟩
  | .hbm, ⟨19, _⟩ => ⟨S_, .i32⟩
  | .hbm, ⟨20, _⟩ => ⟨S4x1000, .i32⟩
  | .hbm, ⟨21, _⟩ => ⟨S4x1000, .i1⟩
  | .hbm, ⟨22, _⟩ => ⟨S_, .i32⟩
  | .hbm, ⟨23, _⟩ => ⟨S4x1000, .i32⟩
  | .hbm, ⟨24, _⟩ => ⟨S4x1000, .i1⟩
  | .hbm, ⟨25, _⟩ => ⟨S_, .i32⟩
  | .hbm, ⟨26, _⟩ => ⟨S_, .i1⟩
  | .hbm, ⟨27, _⟩ => ⟨S4x1000, .i1⟩
  | .hbm, ⟨28, _⟩ => ⟨S4x1000, .i1⟩
  | .hbm, ⟨29, _⟩ => ⟨S4x1000, .i1⟩
  | .hbm, ⟨30, _⟩ => ⟨S4x1000, .i32⟩
  | .hbm, ⟨31, _⟩ => ⟨S4x1000, .i32⟩
  | .hbm, ⟨32, _⟩ => ⟨S4x1000, .i32⟩
  | .hbm, ⟨33, _⟩ => ⟨S_, .i32⟩
  | .hbm, ⟨34, _⟩ => ⟨S4x1000, .i32⟩
  | .hbm, ⟨35, _⟩ => ⟨S4x1000, .i32⟩
  | .hbm, ⟨36, _⟩ => ⟨S_, .i32⟩
  | .hbm, ⟨37, _⟩ => ⟨S_, .i32⟩
  | .hbm, ⟨38, _⟩ => ⟨S4x1000, .i32⟩
  | .hbm, ⟨39, _⟩ => ⟨S4x1000, .i32⟩
  | .hbm, ⟨40, _⟩ => ⟨S4x1000, .i32⟩
  | .hbm, ⟨41, _⟩ => ⟨S_, .i32⟩
  | .hbm, ⟨42, _⟩ => ⟨S4x1000, .i32⟩
  | .hbm, ⟨43, _⟩ => ⟨S4x1000, .i1⟩
  | .hbm, ⟨44, _⟩ => ⟨S4x1000, .i32⟩
  | .hbm, ⟨45, _⟩ => ⟨S4x1000, .i32⟩
  | .hbm, ⟨46, _⟩ => ⟨S_, .i32⟩
  | .hbm, ⟨47, _⟩ => ⟨S4x1000, .i32⟩
  | .hbm, ⟨48, _⟩ => ⟨S4x1000, .i1⟩
  | .hbm, ⟨49, _⟩ => ⟨S4x1000, .i1⟩
  | .hbm, ⟨50, _⟩ => ⟨S_, .i32⟩
  | .hbm, ⟨51, _⟩ => ⟨S4x1000, .i32⟩
  | .hbm, ⟨52, _⟩ => ⟨S4x1000, .i32⟩
  | .hbm, ⟨53, _⟩ => ⟨S4x1000, .i32⟩
  | .hbm, ⟨54, _⟩ => ⟨S4x1000, .i32⟩
  | .hbm, ⟨55, _⟩ => ⟨S4x1x1000, .i32⟩
  | .hbm, ⟨56, _⟩ => ⟨S_, .i32⟩
  | .hbm, ⟨57, _⟩ => ⟨S4x1x1000, .i32⟩
  | .hbm, ⟨58, _⟩ => ⟨S4x1x1000, .i1⟩
  | .hbm, ⟨59, _⟩ => ⟨S_, .i32⟩
  | .hbm, ⟨60, _⟩ => ⟨S4x1x1000, .i32⟩
  | .hbm, ⟨61, _⟩ => ⟨S4x1x1000, .i32⟩
  | .hbm, ⟨62, _⟩ => ⟨S4x1x1000, .i32⟩
  | .hbm, ⟨63, _⟩ => ⟨S4x1000x1, .i32⟩
  | .hbm, ⟨64, _⟩ => ⟨S1, .i32⟩
  | .hbm, ⟨65, _⟩ => ⟨S_, .i32⟩
  | .hbm, ⟨66, _⟩ => ⟨S4x1000x1, .i32⟩
  | .hbm, ⟨67, _⟩ => ⟨S4x1000x1, .i1⟩
  | .hbm, ⟨68, _⟩ => ⟨S1x1x1, .i32⟩
  | .hbm, ⟨69, _⟩ => ⟨S4x1000x1, .i32⟩
  | .hbm, ⟨70, _⟩ => ⟨S4x1000x1, .i1⟩
  | .hbm, ⟨71, _⟩ => ⟨S4x1000x1, .i1⟩
  | .hbm, ⟨72, _⟩ => ⟨S_, .i1⟩
  | .hbm, ⟨73, _⟩ => ⟨S4x1000, .i1⟩
  | .hbm, ⟨74, _⟩ => ⟨S4x6x1000, .f32⟩
  | .hbm, ⟨75, _⟩ => ⟨S4x6x1000, .i1⟩
  | .hbm, ⟨76, _⟩ => ⟨S_, .f32⟩
  | .hbm, ⟨77, _⟩ => ⟨S4x6x1000, .f32⟩
  | .hbm, ⟨78, _⟩ => ⟨S4x6x1000, .f32⟩
  | .hbm, ⟨79, _⟩ => ⟨S_, .f32⟩
  | .hbm, ⟨80, _⟩ => ⟨S4x8x1024, .f32⟩
  | .hbm, ⟨81, _⟩ => ⟨S_, .i32⟩
  | .hbm, ⟨82, _⟩ => ⟨S1, .i32⟩
  | .hbm, ⟨83, _⟩ => ⟨S_, .i32⟩
  | .hbm, ⟨84, _⟩ => ⟨S1, .i32⟩
  | .hbm, ⟨85, _⟩ => ⟨S2, .i32⟩
  | .hbm, ⟨86, _⟩ => ⟨S4x8x1024, .f32⟩
  | .hbm, ⟨87, _⟩ => ⟨S_, .f32⟩
  | .hbm, ⟨88, _⟩ => ⟨S4x1024x128, .f32⟩
  | .hbm, ⟨89, _⟩ => ⟨S4x1000x6, .f32⟩
  | .hbm, ⟨90, _⟩ => ⟨S_, .i32⟩
  | .hbm, ⟨91, _⟩ => ⟨S1, .i32⟩
  | .hbm, ⟨92, _⟩ => ⟨S_, .i32⟩
  | .hbm, ⟨93, _⟩ => ⟨S1, .i32⟩
  | .hbm, ⟨94, _⟩ => ⟨S2, .i32⟩
  | .hbm, ⟨95, _⟩ => ⟨S4x1024x128, .f32⟩
  | .hbm, ⟨96, _⟩ => ⟨S4x304x128, .f32⟩
  | .hbm, ⟨97, _⟩ => ⟨S4x300x6, .f32⟩
  | .local _ .vmem, ⟨0, _⟩ => ⟨S1x672x2500, .f32⟩
  | .local _ .vmem, ⟨1, _⟩ => ⟨S1x672x2500, .f32⟩
  | .local _ .vmem, ⟨2, _⟩ => ⟨S1x32x2500, .f32⟩
  | .local _ .vmem, ⟨3, _⟩ => ⟨S1x32x2500, .f32⟩
  | .local _ .vmem, ⟨4, _⟩ => ⟨S1x48x2500, .f32⟩
  | .local _ .vmem, ⟨5, _⟩ => ⟨S1x48x2500, .f32⟩
  | .local _ .vmem, ⟨6, _⟩ => ⟨S4x8x1024, .f32⟩
  | .local _ .vmem, ⟨7, _⟩ => ⟨S4x1024x128, .f32⟩
  | .local _ .vmem, ⟨8, _⟩ => ⟨S4x304x128, .f32⟩
  | .local _ .vmem, ⟨9, _⟩ => ⟨S4x1024x1024, .f32⟩
  | _, _ => ⟨S4x672x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_values : Ref sig .tc := ⟨.hbm, 9, rfl⟩
abbrev main_indices : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v13 : Ref sig .tc := ⟨.hbm, 78, rfl⟩
abbrev main_cst : Ref sig .tc := ⟨.hbm, 79, rfl⟩
abbrev main_v14 : Ref sig .tc := ⟨.hbm, 80, rfl⟩
abbrev main_c_2 : Ref sig .tc := ⟨.hbm, 81, rfl⟩
abbrev main_v15 : Ref sig .tc := ⟨.hbm, 82, rfl⟩
abbrev main_c_3 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_cst_4 : Ref sig .tc := ⟨.hbm, 87, rfl⟩
abbrev main_v19 : Ref sig .tc := ⟨.hbm, 88, rfl⟩
abbrev main_v20 : Ref sig .tc := ⟨.hbm, 89, rfl⟩
abbrev main_c_5 : Ref sig .tc := ⟨.hbm, 90, rfl⟩
abbrev main_v21 : Ref sig .tc := ⟨.hbm, 91, rfl⟩
abbrev main_c_6 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x672x2500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x2500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x48x2500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

@[reducible] def k1_t1_loop : Scf.Loop 32 :=
  let c0_i32 : BitVec 32 := 0#32
  let c1000_i32 : BitVec 32 := 1000#32
  let v1430 : BitVec 32 := Scalar.addi c0_i32 c1000_i32
  let c1_i32 : BitVec 32 := 1#32
  ⟨c0_i32, v1430, c1_i32⟩
def k1_off1 (k1_t1 : Fin k1_t1_loop.trips) : Fin 3 → Nat :=
  let c0_702 : Index := 0#32
  let c0_i32 : BitVec 32 := 0#32
  let c1_i32 : BitVec 32 := 1#32
  let arg5 : BitVec 32 := Scf.iv c0_i32 c1_i32 k1_t1
  let v1524 : Index := Scalar.indexCast arg5
  let c0_703 : Index := 0#32
  ![0, v1524.toNat, 0]
def k1_off2 (k1_t1 : Fin k1_t1_loop.trips) : Fin 3 → Nat :=
  let c1_704 : Index := 1#32
  let c0_i32 : BitVec 32 := 0#32
  let c1_i32 : BitVec 32 := 1#32
  let arg5 : BitVec 32 := Scf.iv c0_i32 c1_i32 k1_t1
  let v1527 : Index := Scalar.indexCast arg5
  let c0_705 : Index := 0#32
  ![1, v1527.toNat, 0]
def k1_off3 (k1_t1 : Fin k1_t1_loop.trips) : Fin 3 → Nat :=
  let c2_706 : Index := 2#32
  let c0_i32 : BitVec 32 := 0#32
  let c1_i32 : BitVec 32 := 1#32
  let arg5 : BitVec 32 := Scf.iv c0_i32 c1_i32 k1_t1
  let v1530 : Index := Scalar.indexCast arg5
  let c0_707 : Index := 0#32
  ![2, v1530.toNat, 0]
def k1_off4 (k1_t1 : Fin k1_t1_loop.trips) : Fin 3 → Nat :=
  let c3_708 : Index := 3#32
  let c0_i32 : BitVec 32 := 0#32
  let c1_i32 : BitVec 32 := 1#32
  let arg5 : BitVec 32 := Scf.iv c0_i32 c1_i32 k1_t1
  let v1533 : Index := Scalar.indexCast arg5
  let c0_709 : Index := 0#32
  ![3, v1533.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S4x8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x304x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S4x672x50x50 : Shape := ⟨4, ![4, 672, 50, 50]⟩
abbrev S4x32x50x50 : Shape := ⟨4, ![4, 32, 50, 50]⟩
abbrev S4x50x50x32 : Shape := ⟨4, ![4, 50, 50, 32]⟩
abbrev S4x20000x4 : Shape := ⟨3, ![4, 20000, 4]⟩
abbrev S4x50x50x672 : Shape := ⟨4, ![4, 50, 50, 672]⟩
abbrev S4x20000x84 : Shape := ⟨3, ![4, 20000, 84]⟩
abbrev S4x20000x80 : Shape := ⟨3, ![4, 20000, 80]⟩
abbrev S_ : Shape := ⟨0, ![]⟩
abbrev S4x20000 : Shape := ⟨2, ![4, 20000]⟩
abbrev S80000x4 : Shape := ⟨2, ![80000, 4]⟩
abbrev S80000x1 : Shape := ⟨2, ![80000, 1]⟩
abbrev S80000 : Shape := ⟨1, ![80000]⟩
abbrev S4x20000x1 : Shape := ⟨3, ![4, 20000, 1]⟩
abbrev S4x20000x6 : Shape := ⟨3, ![4, 20000, 6]⟩
abbrev S4x1000 : Shape := ⟨2, ![4, 1000]⟩
abbrev S4x1000x1 : Shape := ⟨3, ![4, 1000, 1]⟩
abbrev S1 : Shape := ⟨1, ![1]⟩
abbrev S1x1x1 : Shape := ⟨3, ![1, 1, 1]⟩
abbrev S4x1000x6 : Shape := ⟨3, ![4, 1000, 6]⟩
abbrev S4x1x1000 : Shape := ⟨3, ![4, 1, 1000]⟩
abbrev S4x1000x1000 : Shape := ⟨3, ![4, 1000, 1000]⟩
abbrev S1000 : Shape := ⟨1, ![1000]⟩
abbrev S4x1 : Shape := ⟨2, ![4, 1]⟩
abbrev S1x1000 : Shape := ⟨2, ![1, 1000]⟩
abbrev S4x301x6 : Shape := ⟨3, ![4, 301, 6]⟩
abbrev S4 : Shape := ⟨1, ![4]⟩
abbrev S4x1000x2 : Shape := ⟨3, ![4, 1000, 2]⟩
abbrev S4x300x6 : Shape := ⟨3, ![4, 300, 6]⟩

abbrev nBuf : Space → Nat
  | .hbm => 315
  | .vmem => 0
  | .smem => 0
  | _ => 0

abbrev hbmTy0_0 (i : Nat) : BufTy := match i % 128 with
  | 0 => ⟨S4x672x50x50, .f32⟩
  | 1 => ⟨S4x32x50x50, .f32⟩
  | 2 => ⟨S4x50x50x32, .f32⟩
  | 3 => ⟨S4x20000x4, .f32⟩
  | 4 => ⟨S4x50x50x672, .f32⟩
  | 5 => ⟨S4x20000x84, .f32⟩
  | 6 => ⟨S4x20000x4, .f32⟩
  | 7 => ⟨S4x20000x80, .f32⟩
  | 8 => ⟨S_, .f32⟩
  | 9 => ⟨S4x20000, .f32⟩
  | 10 => ⟨S4x20000x80, .i32⟩
  | 11 => ⟨S_, .f32⟩
  | 12 => ⟨S_, .i32⟩
  | 13 => ⟨S4x20000, .f32⟩
  | 14 => ⟨S4x20000, .i32⟩
  | 15 => ⟨S4x20000, .f32⟩
  | 16 => ⟨S80000x4, .f32⟩
  | 17 => ⟨S80000x4, .f32⟩
  | 18 => ⟨S80000x1, .f32⟩
  | 19 => ⟨S80000, .f32⟩
  | 20 => ⟨S80000x1, .f32⟩
  | 21 => ⟨S80000, .f32⟩
  | 22 => ⟨S80000, .f32⟩
  | 23 => ⟨S80000x1, .f32⟩
  | 24 => ⟨S80000, .f32⟩
  | 25 => ⟨S80000x1, .f32⟩
  | 26 => ⟨S80000, .f32⟩
  | 27 => ⟨S80000, .f32⟩
  | 28 => ⟨S80000x1, .f32⟩
  | 29 => ⟨S80000, .f32⟩
  | 30 => ⟨S_, .f32⟩
  | 31 => ⟨S80000, .f32⟩
  | 32 => ⟨S80000, .f32⟩
  | 33 => ⟨S80000, .f32⟩
  | 34 => ⟨S80000x1, .f32⟩
  | 35 => ⟨S80000, .f32⟩
  | 36 => ⟨S_, .f32⟩
  | 37 => ⟨S80000, .f32⟩
  | 38 => ⟨S80000, .f32⟩
  | 39 => ⟨S80000, .f32⟩
  | 40 => ⟨S80000x1, .f32⟩
  | 41 => ⟨S80000, .f32⟩
  | 42 => ⟨S80000x1, .f32⟩
  | 43 => ⟨S80000, .f32⟩
  | 44 => ⟨S80000x1, .f32⟩
  | 45 => ⟨S80000, .f32⟩
  | 46 => ⟨S_, .f32⟩
  | 47 => ⟨S80000, .f32⟩
  | 48 => ⟨S80000, .f32⟩
  | 49 => ⟨S80000x1, .f32⟩
  | 50 => ⟨S80000, .f32⟩
  | 51 => ⟨S_, .f32⟩
  | 52 => ⟨S80000, .f32⟩
  | 53 => ⟨S80000, .f32⟩
  | 54 => ⟨S80000, .f32⟩
  | 55 => ⟨S80000, .f32⟩
  | 56 => ⟨S80000, .f32⟩
  | 57 => ⟨S80000, .f32⟩
  | 58 => ⟨S80000, .f32⟩
  | 59 => ⟨S80000, .f32⟩
  | 60 => ⟨S80000, .f32⟩
  | 61 => ⟨S80000, .f32⟩
  | 62 => ⟨S_, .f32⟩
  | 63 => ⟨S80000, .f32⟩
  | 64 => ⟨S80000, .f32⟩
  | 65 => ⟨S80000, .f32⟩
  | 66 => ⟨S_, .f32⟩
  | 67 => ⟨S80000, .f32⟩
  | 68 => ⟨S80000, .f32⟩
  | 69 => ⟨S80000, .f32⟩
  | 70 => ⟨S_, .f32⟩
  | 71 => ⟨S80000, .f32⟩
  | 72 => ⟨S80000, .f32⟩
  | 73 => ⟨S80000, .f32⟩
  | 74 => ⟨S_, .f32⟩
  | 75 => ⟨S80000, .f32⟩
  | 76 => ⟨S80000, .f32⟩
  | 77 => ⟨S80000, .f32⟩
  | 78 => ⟨S80000x1, .f32⟩
  | 79 => ⟨S80000x1, .f32⟩
  | 80 => ⟨S80000x1, .f32⟩
  | 81 => ⟨S80000x1, .f32⟩
  | 82 => ⟨S80000x4, .f32⟩
  | 83 => ⟨S4x20000x4, .f32⟩
  | 84 => ⟨S4x20000x1, .f32⟩
  | 85 => ⟨S4x20000, .f32⟩
  | 86 => ⟨S_, .f32⟩
  | 87 => ⟨S_, .f32⟩
  | 88 => ⟨S_, .f32⟩
  | 89 => ⟨S4x20000, .f32⟩
  | 90 => ⟨S4x20000, .f32⟩
  | 91 => ⟨S_, .f32⟩
  | 92 => ⟨S4x20000, .f32⟩
  | 93 => ⟨S4x20000, .f32⟩
  | 94 => ⟨S4x20000x1, .f32⟩
  | 95 => ⟨S4x20000, .f32⟩
  | 96 => ⟨S_, .f32⟩
  | 97 => ⟨S_, .f32⟩
  | 98 => ⟨S_, .f32⟩
  | 99 => ⟨S4x20000, .f32⟩
  | 100 => ⟨S4x20000, .f32⟩
  | 101 => ⟨S_, .f32⟩
  | 102 => ⟨S4x20000, .f32⟩
  | 103 => ⟨S4x20000, .f32⟩
  | 104 => ⟨S4x20000x1, .f32⟩
  | 105 => ⟨S4x20000, .f32⟩
  | 106 => ⟨S_, .f32⟩
  | 107 => ⟨S_, .f32⟩
  | 108 => ⟨S_, .f32⟩
  | 109 => ⟨S4x20000, .f32⟩
  | 110 => ⟨S4x20000, .f32⟩
  | 111 => ⟨S_, .f32⟩
  | 112 => ⟨S4x20000, .f32⟩
  | 113 => ⟨S4x20000, .f32⟩
  | 114 => ⟨S4x20000x1, .f32⟩
  | 115 => ⟨S4x20000, .f32⟩
  | 116 => ⟨S_, .f32⟩
  | 117 => ⟨S_, .f32⟩
  | 118 => ⟨S_, .f32⟩
  | 119 => ⟨S4x20000, .f32⟩
  | 120 => ⟨S4x20000, .f32⟩
  | 121 => ⟨S_, .f32⟩
  | 122 => ⟨S4x20000, .f32⟩
  | 123 => ⟨S4x20000, .f32⟩
  | 124 => ⟨S4x20000x1, .f32⟩
  | 125 => ⟨S4x20000x1, .f32⟩
  | 126 => ⟨S4x20000x1, .f32⟩
  | 127 => ⟨S4x20000x1, .f32⟩
  | _ => ⟨S4x672x50x50, .f32⟩

abbrev hbmTy0_1 (i : Nat) : BufTy := match i % 128 with
  | 0 => ⟨S4x20000x1, .f32⟩
  | 1 => ⟨S4x20000x1, .f32⟩
  | 2 => ⟨S4x20000x6, .f32⟩
  | 3 => ⟨S4x1000, .f32⟩
  | 4 => ⟨S4x1000, .i32⟩
  | 5 => ⟨S4x1000x1, .i32⟩
  | 6 => ⟨S_, .i32⟩
  | 7 => ⟨S4x1000x1, .i32⟩
  | 8 => ⟨S4x1000x1, .i1⟩
  | 9 => ⟨S_, .i32⟩
  | 10 => ⟨S4x1000x1, .i32⟩
  | 11 => ⟨S4x1000x1, .i32⟩
  | 12 => ⟨S4x1000x1, .i32⟩
  | 13 => ⟨S1, .i32⟩
  | 14 => ⟨S_, .i32⟩
  | 15 => ⟨S4x1000x1, .i32⟩
  | 16 => ⟨S4x1000x1, .i1⟩
  | 17 => ⟨S1x1x1, .i32⟩
  | 18 => ⟨S4x1000x1, .i32⟩
  | 19 => ⟨S4x1000x1, .i1⟩
  | 20 => ⟨S4x1000x1, .i1⟩
  | 21 => ⟨S_, .i1⟩
  | 22 => ⟨S4x1000, .i1⟩
  | 23 => ⟨S4x1000x6, .f32⟩
  | 24 => ⟨S4x1000x6, .i1⟩
  | 25 => ⟨S_, .f32⟩
  | 26 => ⟨S4x1000x6, .f32⟩
  | 27 => ⟨S4x1000x6, .f32⟩
  | 28 => ⟨S4x1000x1, .f32⟩
  | 29 => ⟨S4x1000, .f32⟩
  | 30 => ⟨S4x1000x1, .f32⟩
  | 31 => ⟨S4x1000, .f32⟩
  | 32 => ⟨S4x1000x1, .f32⟩
  | 33 => ⟨S4x1000, .f32⟩
  | 34 => ⟨S4x1000x1, .f32⟩
  | 35 => ⟨S4x1000, .f32⟩
  | 36 => ⟨S4x1000x1, .f32⟩
  | 37 => ⟨S4x1000, .f32⟩
  | 38 => ⟨S_, .f32⟩
  | 39 => ⟨S4x1000, .f32⟩
  | 40 => ⟨S4x1000, .i1⟩
  | 41 => ⟨S_, .f32⟩
  | 42 => ⟨S4x1000, .f32⟩
  | 43 => ⟨S4x1000, .f32⟩
  | 44 => ⟨S4x1000, .i1⟩
  | 45 => ⟨S4x1000, .i1⟩
  | 46 => ⟨S_, .f32⟩
  | 47 => ⟨S4x1000, .f32⟩
  | 48 => ⟨S4x1000, .f32⟩
  | 49 => ⟨S4x1000, .i1⟩
  | 50 => ⟨S4x1000, .i1⟩
  | 51 => ⟨S4x1000, .f32⟩
  | 52 => ⟨S4x1000, .f32⟩
  | 53 => ⟨S4x1000, .f32⟩
  | 54 => ⟨S4x1000x1, .f32⟩
  | 55 => ⟨S4x1x1000, .f32⟩
  | 56 => ⟨S4x1000x1000, .f32⟩
  | 57 => ⟨S4x1000x1000, .f32⟩
  | 58 => ⟨S4x1000x1000, .f32⟩
  | 59 => ⟨S4x1000x1, .f32⟩
  | 60 => ⟨S4x1x1000, .f32⟩
  | 61 => ⟨S4x1000x1000, .f32⟩
  | 62 => ⟨S4x1000x1000, .f32⟩
  | 63 => ⟨S4x1000x1000, .f32⟩
  | 64 => ⟨S4x1000x1, .f32⟩
  | 65 => ⟨S4x1x1000, .f32⟩
  | 66 => ⟨S4x1000x1000, .f32⟩
  | 67 => ⟨S4x1000x1000, .f32⟩
  | 68 => ⟨S4x1000x1000, .f32⟩
  | 69 => ⟨S4x1000x1, .f32⟩
  | 70 => ⟨S4x1x1000, .f32⟩
  | 71 => ⟨S4x1000x1000, .f32⟩
  | 72 => ⟨S4x1000x1000, .f32⟩
  | 73 => ⟨S4x1000x1000, .f32⟩
  | 74 => ⟨S4x1000x1000, .f32⟩
  | 75 => ⟨S_, .f32⟩
  | 76 => ⟨S_, .f32⟩
  | 77 => ⟨S4x1000x1000, .f32⟩
  | 78 => ⟨S4x1000x1000, .f32⟩
  | 79 => ⟨S4x1000x1000, .f32⟩
  | 80 => ⟨S_, .f32⟩
  | 81 => ⟨S_, .f32⟩
  | 82 => ⟨S4x1000x1000, .f32⟩
  | 83 => ⟨S4x1000x1000, .f32⟩
  | 84 => ⟨S4x1000x1000, .f32⟩
  | 85 => ⟨S4x1000x1, .f32⟩
  | 86 => ⟨S4x1x1000, .f32⟩
  | 87 => ⟨S4x1000x1000, .f32⟩
  | 88 => ⟨S4x1000x1000, .f32⟩
  | 89 => ⟨S4x1000x1000, .f32⟩
  | 90 => ⟨S4x1000x1000, .f32⟩
  | 91 => ⟨S_, .f32⟩
  | 92 => ⟨S4x1000x1000, .f32⟩
  | 93 => ⟨S4x1000x1000, .i1⟩
  | 94 => ⟨S4x1000x1000, .f32⟩
  | 95 => ⟨S_, .f32⟩
  | 96 => ⟨S_, .f32⟩
  | 97 => ⟨S4x1000x1000, .f32⟩
  | 98 => ⟨S4x1000x1000, .f32⟩
  | 99 => ⟨S1000, .i32⟩
  | 100 => ⟨S_, .i32⟩
  | 101 => ⟨S_, .i32⟩
  | 102 => ⟨S4x1000x1000, .f32⟩
  | 103 => ⟨S1000, .i32⟩
  | 104 => ⟨S_, .i32⟩
  | 105 => ⟨S_, .i32⟩
  | 106 => ⟨S4x1000, .i1⟩
  | 107 => ⟨S_, .i32⟩
  | 108 => ⟨S_, .i1⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S4x1, .i1⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S4x1x1000, .f32⟩
  | _ => ⟨S4x672x50x50, .f32⟩

abbrev hbmTy0_2 (i : Nat) : BufTy := match i % 128 with
  | 0 => ⟨S4x1000, .f32⟩
  | 1 => ⟨S_, .f32⟩
  | 2 => ⟨S4x1000, .f32⟩
  | 3 => ⟨S4x1000, .i1⟩
  | 4 => ⟨S4x1000, .i1⟩
  | 5 => ⟨S4x1000, .i1⟩
  | 6 => ⟨S_, .i32⟩
  | 7 => ⟨S1000, .i32⟩
  | 8 => ⟨S1000, .i1⟩
  | 9 => ⟨S1x1000, .i1⟩
  | 10 => ⟨S4x1000, .i1⟩
  | 11 => ⟨S4x1000, .i1⟩
  | 12 => ⟨S4x1000, .i1⟩
  | 13 => ⟨S4x1000, .i1⟩
  | 14 => ⟨S_, .i32⟩
  | 15 => ⟨S_, .i32⟩
  | 16 => ⟨S4x1000, .i32⟩
  | 17 => ⟨S_, .i32⟩
  | 18 => ⟨S_, .i32⟩
  | 19 => ⟨S4x1000, .i32⟩
  | 20 => ⟨S_, .i32⟩
  | 21 => ⟨S4x1000, .i32⟩
  | 22 => ⟨S4x1000, .i32⟩
  | 23 => ⟨S_, .i32⟩
  | 24 => ⟨S4x1000, .i32⟩
  | 25 => ⟨S4x1000, .i1⟩
  | 26 => ⟨S4x1000, .i1⟩
  | 27 => ⟨S_, .i32⟩
  | 28 => ⟨S_, .i32⟩
  | 29 => ⟨S4x1000, .i32⟩
  | 30 => ⟨S4x1000, .i32⟩
  | 31 => ⟨S_, .f32⟩
  | 32 => ⟨S4x301x6, .f32⟩
  | 33 => ⟨S4, .i32⟩
  | 34 => ⟨S4x1, .i32⟩
  | 35 => ⟨S4x1000x1, .i1⟩
  | 36 => ⟨S4x1000x1, .f32⟩
  | 37 => ⟨S4x1000x6, .f32⟩
  | 38 => ⟨S4x1000x6, .f32⟩
  | 39 => ⟨S_, .i32⟩
  | 40 => ⟨S4x1, .i32⟩
  | 41 => ⟨S4x1, .i1⟩
  | 42 => ⟨S_, .i32⟩
  | 43 => ⟨S4x1, .i32⟩
  | 44 => ⟨S4x1, .i32⟩
  | 45 => ⟨S4x1, .i32⟩
  | 46 => ⟨S_, .i32⟩
  | 47 => ⟨S4x1000, .i32⟩
  | 48 => ⟨S4x1000, .i1⟩
  | 49 => ⟨S_, .i32⟩
  | 50 => ⟨S4x1000, .i32⟩
  | 51 => ⟨S4x1000, .i32⟩
  | 52 => ⟨S4x1000, .i32⟩
  | 53 => ⟨S4x1000, .i32⟩
  | 54 => ⟨S4x1000x1, .i32⟩
  | 55 => ⟨S4x1000x1, .i32⟩
  | 56 => ⟨S4x1000x2, .i32⟩
  | 57 => ⟨S4x301x6, .f32⟩
  | 58 => ⟨S4x300x6, .f32⟩
  | _ => ⟨S4x672x50x50, .f32⟩

abbrev hbmTy (i : Nat) : BufTy := match i / 128 with
  | 0 => hbmTy0_0 i
  | 1 => hbmTy0_1 i
  | 2 => hbmTy0_2 i
  | _ => ⟨S4x672x50x50, .f32⟩

abbrev bufTy : (tb : Table) → Fin (tcTables nBuf tb) → BufTy
  | .hbm, ⟨i, _⟩ => hbmTy i
  | _, _ => ⟨S4x672x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_4 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_5 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_cst_9 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_10 : Ref sig .tc := ⟨.hbm, 96, rfl⟩
abbrev main_cst_11 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_12 : Ref sig .tc := ⟨.hbm, 106, rfl⟩
abbrev main_cst_13 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_14 : Ref sig .tc := ⟨.hbm, 116, rfl⟩
abbrev main_cst_15 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_values : Ref sig .tc := ⟨.hbm, 131, rfl⟩
abbrev main_indices : Ref sig .tc := ⟨.hbm, 132, rfl⟩
abbrev main_v88 : Ref sig .tc := ⟨.hbm, 133, rfl⟩
abbrev main_call5_c : Ref sig .tc := ⟨.hbm, 134, rfl⟩
abbrev main_call5_v0 : Ref sig .tc := ⟨.hbm, 135, rfl⟩
abbrev main_call5_v1 : Ref sig .tc := ⟨.hbm, 136, rfl⟩
abbrev main_call5_c_0 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_call5_c_1 : Ref sig .tc := ⟨.hbm, 141, rfl⟩
abbrev main_call5_c_2 : Ref sig .tc := ⟨.hbm, 142, rfl⟩
abbrev main_call5_v5 : Ref sig .tc := ⟨.hbm, 143, rfl⟩
abbrev main_call5_v6 : Ref sig .tc := ⟨.hbm, 144, rfl⟩
abbrev main_call5_v7 : Ref sig .tc := ⟨.hbm, 145, rfl⟩
abbrev main_call5_v8 : Ref sig .tc := ⟨.hbm, 146, rfl⟩
abbrev main_call5_v9 : Ref sig .tc := ⟨.hbm, 147, rfl⟩
abbrev main_call5_v10 : Ref sig .tc := ⟨.hbm, 148, rfl⟩
abbrev main_call5_c_3 : Ref sig .tc := ⟨.hbm, 149, rfl⟩
abbrev main_call5_v11 : Ref sig .tc := ⟨.hbm, 150, rfl⟩
abbrev main_call5_v12 : Ref sig .tc := ⟨.hbm, 151, rfl⟩
abbrev main_call5_v13 : Ref sig .tc := ⟨.hbm, 152, rfl⟩
abbrev main_call5_cst : Ref sig .tc := ⟨.hbm, 153, rfl⟩
abbrev main_call5_v14 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_cst_16 : Ref sig .tc := ⟨.hbm, 166, rfl⟩
abbrev main_v100 : Ref sig .tc := ⟨.hbm, 167, rfl⟩
abbrev main_v101 : Ref sig .tc := ⟨.hbm, 168, rfl⟩
abbrev main_cst_17 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_18 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_cst_19 : Ref sig .tc := ⟨.hbm, 203, rfl⟩
abbrev main_call6_v0 : Ref sig .tc := ⟨.hbm, 204, rfl⟩
abbrev main_call6_v1 : Ref sig .tc := ⟨.hbm, 205, rfl⟩
abbrev main_v134 : Ref sig .tc := ⟨.hbm, 206, rfl⟩
abbrev main_v135 : Ref sig .tc := ⟨.hbm, 207, rfl⟩
abbrev main_cst_20 : Ref sig .tc := ⟨.hbm, 208, rfl⟩
abbrev main_call7_v0 : Ref sig .tc := ⟨.hbm, 209, rfl⟩
abbrev main_call7_v1 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_cst_21 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_cst_22 : Ref sig .tc := ⟨.hbm, 223, rfl⟩
abbrev main_call8_v0 : Ref sig .tc := ⟨.hbm, 224, rfl⟩
abbrev main_call8_v1 : Ref sig .tc := ⟨.hbm, 225, rfl⟩
abbrev main_v147 : Ref sig .tc := ⟨.hbm, 226, rfl⟩
abbrev main_v148 : Ref sig .tc := ⟨.hbm, 227, rfl⟩
abbrev main_c : Ref sig .tc := ⟨.hbm, 228, rfl⟩
abbrev main_c_23 : Ref sig .tc := ⟨.hbm, 229, rfl⟩
abbrev main_v149_0 : Ref sig .tc := ⟨.hbm, 230, rfl⟩
abbrev main_v149_1 : Ref sig .tc := ⟨.hbm, 231, rfl⟩
abbrev main_v149_2 : Ref sig .tc := ⟨.hbm, 232, rfl⟩
abbrev main_v149_3 : Ref sig .tc := ⟨.hbm, 233, rfl⟩
abbrev main_v149_4 : Ref sig .tc := ⟨.hbm, 234, rfl⟩
abbrev main_while0c_c_36 : Ref sig .tc := ⟨.hbm, 235, rfl⟩
abbrev main_while0c_v180 : Ref sig .tc := ⟨.hbm, 236, rfl⟩
abbrev main_while0b_c_36 : Ref sig .tc := ⟨.hbm, 237, rfl⟩
abbrev main_while0b_v180 : Ref sig .tc := ⟨.hbm, 238, rfl⟩
abbrev main_while0b_c_37 : Ref sig .tc := ⟨.hbm, 239, rfl⟩
abbrev main_while0b_v181 : Ref sig .tc := ⟨.hbm, 240, rfl⟩
abbrev main_while0b_v182 : Ref sig .tc := ⟨.hbm, 241, rfl⟩
abbrev main_while0b_c_38 : Ref sig .tc := ⟨.hbm, 242, rfl⟩
abbrev main_while0b_v183 : Ref sig .tc := ⟨.hbm, 243, rfl⟩
abbrev main_while0b_v184 : Ref sig .tc := ⟨.hbm, 244, rfl⟩
abbrev main_while0b_c_39 : Ref sig .tc := ⟨.hbm, 245, rfl⟩
abbrev main_while0b_v185 : Ref sig .tc := ⟨.hbm, 246, rfl⟩
abbrev main_while0b_c_40 : Ref sig .tc := ⟨.hbm, 247, rfl⟩
abbrev main_while0b_v186 : Ref sig .tc := ⟨.hbm, 248, rfl⟩
abbrev main_while0b_v187 : Ref sig .tc := ⟨.hbm, 249, rfl⟩
abbrev main_while0b_c_41 : Ref sig .tc := ⟨.hbm, 250, rfl⟩
abbrev main_while0b_v188 : Ref sig .tc := ⟨.hbm, 251, rfl⟩
abbrev main_while0b_v189 : Ref sig .tc := ⟨.hbm, 252, rfl⟩
abbrev main_while0b_c_42 : Ref sig .tc := ⟨.hbm, 253, rfl⟩
abbrev main_while0b_c_43 : Ref sig .tc := ⟨.hbm, 254, rfl⟩
abbrev main_while0b_v190 : Ref sig .tc := ⟨.hbm, 255, rfl⟩
abbrev main_while0b_v191 : Ref sig .tc := ⟨.hbm, 256, rfl⟩
abbrev main_while0b_cst_44 : Ref sig .tc := ⟨.hbm, 257, rfl⟩
abbrev main_while0b_v192 : Ref sig .tc := ⟨.hbm, 258, rfl⟩
abbrev main_while0b_v193 : Ref sig .tc := ⟨.hbm, 259, rfl⟩
abbrev main_while0b_v194 : Ref sig .tc := ⟨.hbm, 260, rfl⟩
abbrev main_while0b_v195 : Ref sig .tc := ⟨.hbm, 261, rfl⟩
abbrev main_while0b_v196 : Ref sig .tc := ⟨.hbm, 262, rfl⟩
abbrev main_while0b_v197 : Ref sig .tc := ⟨.hbm, 263, rfl⟩
abbrev main_while0b_v198 : Ref sig .tc := ⟨.hbm, 264, rfl⟩
abbrev main_while0b_v199 : Ref sig .tc := ⟨.hbm, 265, rfl⟩
abbrev main_while0b_v200 : Ref sig .tc := ⟨.hbm, 266, rfl⟩
abbrev main_while0b_v201 : Ref sig .tc := ⟨.hbm, 267, rfl⟩
abbrev main_while0b_v202 : Ref sig .tc := ⟨.hbm, 268, rfl⟩
abbrev main_while0b_v203 : Ref sig .tc := ⟨.hbm, 269, rfl⟩
abbrev main_while0b_c_45 : Ref sig .tc := ⟨.hbm, 270, rfl⟩
abbrev main_while0b_v204 : Ref sig .tc := ⟨.hbm, 271, rfl⟩
abbrev main_call9_v0 : Ref sig .tc := ⟨.hbm, 272, rfl⟩
abbrev main_call9_call0_c : Ref sig .tc := ⟨.hbm, 273, rfl⟩
abbrev main_call9_call0_v0 : Ref sig .tc := ⟨.hbm, 274, rfl⟩
abbrev main_v150 : Ref sig .tc := ⟨.hbm, 275, rfl⟩
abbrev main_c_24 : Ref sig .tc := ⟨.hbm, 276, rfl⟩
abbrev main_v151 : Ref sig .tc := ⟨.hbm, 277, rfl⟩
abbrev main_v152 : Ref sig .tc := ⟨.hbm, 278, rfl⟩
abbrev main_c_25 : Ref sig .tc := ⟨.hbm, 279, rfl⟩
abbrev main_v153 : Ref sig .tc := ⟨.hbm, 280, rfl⟩
abbrev main_v154 : Ref sig .tc := ⟨.hbm, 281, rfl⟩
abbrev main_v155 : Ref sig .tc := ⟨.hbm, 282, rfl⟩
abbrev main_c_26 : Ref sig .tc := ⟨.hbm, 283, rfl⟩
abbrev main_call10_v0 : Ref sig .tc := ⟨.hbm, 284, rfl⟩
abbrev main_call10_v1 : Ref sig .tc := ⟨.hbm, 285, rfl⟩
abbrev main_v156 : Ref sig .tc := ⟨.hbm, 286, rfl⟩
abbrev main_cst_27 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_c_28 : Ref sig .tc := ⟨.hbm, 295, rfl⟩
abbrev main_v164 : Ref sig .tc := ⟨.hbm, 296, rfl⟩
abbrev main_v165 : Ref sig .tc := ⟨.hbm, 297, rfl⟩
abbrev main_c_29 : Ref sig .tc := ⟨.hbm, 298, rfl⟩
abbrev main_v166 : Ref sig .tc := ⟨.hbm, 299, rfl⟩
abbrev main_v167 : Ref sig .tc := ⟨.hbm, 300, rfl⟩
abbrev main_v168 : Ref sig .tc := ⟨.hbm, 301, rfl⟩
abbrev main_c_30 : Ref sig .tc := ⟨.hbm, 302, rfl⟩
abbrev main_v169 : Ref sig .tc := ⟨.hbm, 303, rfl⟩
abbrev main_v170 : Ref sig .tc := ⟨.hbm, 304, rfl⟩
abbrev main_c_31 : Ref sig .tc := ⟨.hbm, 305, rfl⟩
abbrev main_v171 : Ref sig .tc := ⟨.hbm, 306, rfl⟩
abbrev main_v172 : Ref sig .tc := ⟨.hbm, 307, rfl⟩
abbrev main_v173 : Ref sig .tc := ⟨.hbm, 308, rfl⟩
abbrev main_v174 : Ref sig .tc := ⟨.hbm, 309, rfl⟩
abbrev main_v175 : Ref sig .tc := ⟨.hbm, 310, rfl⟩
abbrev main_v176 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩

abbrev nD : Nat := 1
abbrev τ : Topo := Topo.v7x

variable {F : FTy → Type} [FloatOps F]

abbrev main_while0_count : Scf.Loop 32 := ⟨0#32, 1000#32, 1#32⟩
-- ==== Proof.RefOps.lean ====
module

public import proofs.«01_k».proof.Proof.Gen.ReferenceIdeal
public import Idealize.ShloMosaic.Lib.StableHlo.RunLoop
public import Idealize.ShloMosaic.Lib.Quiescent

@[expose] public section

/-! The reference program's host operations as lists, cut where @main's parts and calls begin:
the stretches before the suppression loop, the loop's condition and body, and the stretches after it. -/

set_option maxRecDepth 16384

noncomputable section

namespace Cert.RefRun

open Idealize.ShloMosaic Idealize.ShloMosaic.TcCoe Idealize.SL.Sem
open Cert.ReferenceIdeal Cert.ReferenceIdeal.Gen

variable {F : FTy → Type} [FloatOps F]

/-- Part 0 of @main, stretch 0. -/
def p0_0 : List (HloOp τ sig (Elt F)) :=
  [ StableHlo.unary main_arg1 main_v0 ((transpose S4x50x50x32 [0, 2, 3, 1] · transposes_S4x32x50x50_S4x50x50x32_0_2_3_1) : (⟨S4x32x50x50, .f32⟩ : BufTy).Contents (Elt F) → (⟨S4x50x50x32, .f32⟩ : BufTy).Contents (Elt F)),
    StableHlo.reshape main_v0 main_v1 (rfl : (.f32 : EltTy) = .f32) shapeCasts_S4x50x50x32_S4x20000x4,
    StableHlo.unary main_arg0 main_v2 ((transpose S4x50x50x672 [0, 2, 3, 1] · transposes_S4x672x50x50_S4x50x50x672_0_2_3_1) : (⟨S4x672x50x50, .f32⟩ : BufTy).Contents (Elt F) → (⟨S4x50x50x672, .f32⟩ : BufTy).Contents (Elt F)),
    StableHlo.reshape main_v2 main_v3 (rfl : (.f32 : EltTy) = .f32) shapeCasts_S4x50x50x672_S4x20000x84,
    StableHlo.unary main_v3 main_v4 ((extractStridedSlice S4x20000x4 ![0, 0, 0] · slices_S4x20000x84_S4x20000x4_0_0_0) : (⟨S4x20000x84, .f32⟩ : BufTy).Contents (Elt F) → (⟨S4x20000x4, .f32⟩ : BufTy).Contents (Elt F)),
    StableHlo.unary main_v3 main_v5 ((extractStridedSlice S4x20000x80 ![0, 0, 4] · slices_S4x20000x84_S4x20000x80_0_0_4) : (⟨S4x20000x84, .f32⟩ : BufTy).Contents (Elt F) → (⟨S4x20000x80, .f32⟩ : BufTy).Contents (Elt F)),
    StableHlo.nullary main_cst (constant S_ .f32 0xFF800000#32),
    StableHlo.binary main_v5 main_cst main_v6 ((fun x v => Host.reduce FloatOps.maximumf x v reducesTo_S4x20000x80_S4x20000_d2 h_S_) : (⟨S4x20000x80, .f32⟩ : BufTy).Contents (Elt F) → (⟨S_, .f32⟩ : BufTy).Contents (Elt F) → (⟨S4x20000, .f32⟩ : BufTy).Contents (Elt F)) ]

/-- They touch TensorCore buffers only. -/
theorem p0_0_sub : (p0_0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.binary_bufs_sub ..⟩

/-- Part 0 of @main, stretch 1. -/
def p0_1 : List (HloOp τ sig (Elt F)) :=
  [ StableHlo.TRef.nullary (.of main_call0_v0 : StableHlo.TRef sig ⟨S4x20000x80, .i32⟩) (iotaInDim S4x20000x80 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v5 : StableHlo.TRef sig ⟨S4x20000x80, .f32⟩) (.of main_call0_v0 : StableHlo.TRef sig ⟨S4x20000x80, .i32⟩) (.of main_call0_cst : StableHlo.TRef sig ⟨S_, .f32⟩) (.of main_call0_c : StableHlo.TRef sig ⟨S_, .i32⟩) (.of main_call0_v1_0 : StableHlo.TRef sig ⟨S4x20000, .f32⟩) (fun x y u v j => (Host.argReduce reducer_argmax_f32_i32 x y u v reducesTo_S4x20000x80_S4x20000_d2 h_S_ j).1),
    StableHlo.TRef.quaternary (.of main_v5 : StableHlo.TRef sig ⟨S4x20000x80, .f32⟩) (.of main_call0_v0 : StableHlo.TRef sig ⟨S4x20000x80, .i32⟩) (.of main_call0_cst : StableHlo.TRef sig ⟨S_, .f32⟩) (.of main_call0_c : StableHlo.TRef sig ⟨S_, .i32⟩) (.of main_v7 : StableHlo.TRef sig ⟨S4x20000, .i32⟩) (fun x y u v j => (Host.argReduce reducer_argmax_f32_i32 x y u v reducesTo_S4x20000x80_S4x20000_d2 h_S_ j).2) ]

/-- They touch TensorCore buffers only. -/
theorem p0_1_sub : (p0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- Part 0 of @main, stretch 2. -/
def p0_2 : List (HloOp τ sig (Elt F)) :=
  [ StableHlo.unary main_v7 main_v8 (sitofp .f32 : (⟨S4x20000, .i32⟩ : BufTy).Contents (Elt F) → (⟨S4x20000, .f32⟩ : BufTy).Contents (Elt F)),
    StableHlo.reshape main_v4 main_v9 (rfl : (.f32 : EltTy) = .f32) shapeCasts_S4x20000x4_S80000x4,
    StableHlo.reshape main_v1 main_v10 (rfl : (.f32 : EltTy) = .f32) shapeCasts_S4x20000x4_S80000x4,
    StableHlo.unary main_v10 main_v11 ((extractStridedSlice S80000x1 ![0, 2] · slices_S80000x4_S80000x1_0_2) : (⟨S80000x4, .f32⟩ : BufTy).Contents (Elt F) → (⟨S80000x1, .f32⟩ : BufTy).Contents (Elt F)),
    StableHlo.reshape main_v11 main_v12 (rfl : (.f32 : EltTy) = .f32) shapeCasts_S80000x1_S80000,
    StableHlo.unary main_v10 main_v13 ((extractStridedSlice S80000x1 ![0, 0] · slices_S80000x4_S80000x1_0_0) : (⟨S80000x4, .f32⟩ : BufTy).Contents (Elt F) → (⟨S80000x1, .f32⟩ : BufTy).Contents (Elt F)),
    StableHlo.reshape main_v13 main_v14 (rfl : (.f32 : EltTy) = .f32) shapeCasts_S80000x1_S80000,
    StableHlo.binary main_v12 main_v14 main_v15 (subf : (⟨S80000, .f32⟩ : BufTy).Contents (Elt F) → (⟨S80000, .f32⟩ : BufTy).Contents (Elt F) → (⟨S80000, .f32⟩ : BufTy).Contents (Elt F)),
    StableHlo.unary main_v10 main_v16 ((extractStridedSlice S80000x1 ![0, 3] · slices_S80000x4_S80000x1_0_3) : (⟨S80000x4, .f32⟩ : BufTy).Contents (Elt F) → (⟨S80000x1, .f32⟩ : BufTy).Contents (Elt F)),
    StableHlo.reshape main_v16 main_v17 (rfl : (.f32 : EltTy) = .f32) shapeCasts_S80000x1_S80000,
    StableHlo.unary main_v10 main_v18 ((extractStridedSlice S80000x1 ![0, 1] · slices_S80000x4_S80000x1_0_1) : (⟨S80000x4, .f32⟩ : BufTy).Contents (Elt F) → (⟨S80000x1, .f32⟩ : BufTy).Contents (Elt F)),
    StableHlo.reshape main_v18 main_v19 (rfl : (.f32 : EltTy) = .f32) shapeCasts_S80000x1_S80000,
    StableHlo.binary main_v17 main_v19 main_v20 (subf : (⟨S80000, .f32⟩ : BufTy).Contents (Elt F) → (⟨S80000, .f32⟩ : BufTy).Contents (Elt F) → (⟨S80000, .f32⟩ : BufTy).Contents (Elt F)),
    StableHlo.unary main_v10 main_v21 ((extractStridedSlice S80000x1 ![0, 0] · slices_S80000x4_S80000x1_0_0) : (⟨S80000x4, .f32⟩ : BufTy).Contents (Elt F) → (⟨S80000x1, .f32⟩ : BufTy).Contents (Elt F)),
    StableHlo.reshape main_v21 main_v22 (rfl : (.f32 : EltTy) = .f32) shapeCasts_S80000x1_S80000,
    StableHlo.nullary main_cst_0 (constant S_ .f32 0x3F000000#32),
    StableHlo.unary main_cst_0 main_v23 (broadcastInDim S80000 ![] bcast_S_S80000 : (⟨S_, .f32⟩ : BufTy).Contents (Elt F) → (⟨S80000, .f32⟩ : BufTy).Contents (Elt F)),
    StableHlo.binary main_v23 main_v15 main_v24 (mulf : (⟨S80000, .f32⟩ : BufTy).Contents (Elt F) → (⟨S80000, .f32⟩ : BufTy).Contents (Elt F) → (⟨S80000, .f32⟩ : BufTy).Contents (Elt F)),
    StableHlo.binary main_v22 main_v24 main_v25 (addf : (⟨S80000, .f32⟩ : BufTy).Contents (Elt F) → (⟨S80000, .f32⟩ : BufTy).Contents (Elt F) → (⟨S80000, .f32⟩ : BufTy).Contents (Elt F)),
    StableHlo.unary main_v10 main_v26 ((extractStridedSlice S80000x1 ![0, 1] · slices_S80000x4_S80000x1_0_1) : (⟨S80000x4, .f32⟩ : BufTy).Contents (Elt F) → (⟨S80000x1, .f32⟩ : BufTy).Contents (Elt F)),
    StableHlo.reshape main_v26 main_v27 (rfl : (.f32 : EltTy) = .f32) shapeCasts_S80000x1_S80000,
    StableHlo.nullary main_cst_1 (constant S_ .f32 0x3F000000#32),
    StableHlo.unary main_cst_1 main_v28 (broadcastInDim S80000 ![] bcast_S_S80000 : (⟨S_, .f32⟩ : BufTy).Contents (Elt F) → (⟨S80000, .f32⟩ : BufTy).Contents (Elt F)),
    StableHlo.binary main_v28 main_v20 main_v29 (mulf : (⟨S80000, .f32⟩ : BufTy).Contents (Elt F) → (⟨S80000, .f32⟩ : BufTy).Contents (Elt F) → (⟨S80000, .f32⟩ : BufTy).Contents (Elt F)),
    StableHlo.binary main_v27 main_v29 main_v30 (addf : (⟨S80000, .f32⟩ : BufTy).Contents (Elt F) → (⟨S80000, .f32⟩ : BufTy).Contents (Elt F) → (⟨S80000, .f32⟩ : BufTy).Contents (Elt F)),
    StableHlo.unary main_v9 main_v31 ((extractStridedSlice S80000x1 ![0, 0] · slices_S80000x4_S80000x1_0_0) : (⟨S80000x4, .f32⟩ : BufTy).Contents (Elt F) → (⟨S80000x1, .f32⟩ : BufTy).Contents (Elt F)),
    StableHlo.reshape main_v31 main_v32 (rfl : (.f32 : EltTy) = .f32) shapeCasts_S80000x1_S80000,
    StableHlo.unary main_v9 main_v33 ((extractStridedSlice S80000x1 ![0, 1] · slices_S80000x4_S80000x1_0_1) : (⟨S80000x4, .f32⟩ : BufTy).Contents (Elt F) → (⟨S80000x1, .f32⟩ : BufTy).Contents (Elt F)),
    StableHlo.reshape main_v33 main_v34 (rfl : (.f32 : EltTy) = .f32) shapeCasts_S80000x1_S80000,
    StableHlo.unary main_v9 main_v35 ((extractStridedSlice S80000x1 ![0, 2] · slices_S80000x4_S80000x1_0_2) : (⟨S80000x4, .f32⟩ : BufTy).Contents (Elt F) → (⟨S80000x1, .f32⟩ : BufTy).Contents (Elt F)),
    StableHlo.reshape main_v35 main_v36 (rfl : (.f32 : EltTy) = .f32) shapeCasts_S80000x1_S80000,
    StableHlo.nullary main_cst_2 (constant S_ .f32 0x40845349#32),
    StableHlo.unary main_cst_2 main_v37 (broadcastInDim S80000 ![] bcast_S_S80000 : (⟨S_, .f32⟩ : BufTy).Contents (Elt F) → (⟨S80000, .f32⟩ : BufTy).Contents (Elt F)),
    StableHlo.binary main_v36 main_v37 main_v38 (minimumf : (⟨S80000, .f32⟩ : BufTy).Contents (Elt F) → (⟨S80000, .f32⟩ : BufTy).Contents (Elt F) → (⟨S80000, .f32⟩ : BufTy).Contents (Elt F)),
    StableHlo.unary main_v9 main_v39 ((extractStridedSlice S80000x1 ![0, 3] · slices_S80000x4_S80000x1_0_3) : (⟨S80000x4, .f32⟩ : BufTy).Contents (Elt F) → (⟨S80000x1, .f32⟩ : BufTy).Contents (Elt F)),
    StableHlo.reshape main_v39 main_v40 (rfl : (.f32 : EltTy) = .f32) shapeCasts_S80000x1_S80000,
    StableHlo.nullary main_cst_3 (constant S_ .f32 0x40845349#32),
    StableHlo.unary main_cst_3 main_v41 (broadcastInDim S80000 ![] bcast_S_S80000 : (⟨S_, .f32⟩ : BufTy).Contents (Elt F) → (⟨S80000, .f32⟩ : BufTy).Contents (Elt F)),
    StableHlo.binary main_v40 main_v41 main_v42 (minimumf : (⟨S80000, .f32⟩ : BufTy).Contents (Elt F) → (⟨S80000, .f32⟩ : BufTy).Contents (Elt F) → (⟨S80000, .f32⟩ : BufTy).Contents (Elt F)),
    StableHlo.binary main_v32 main_v15 main_v43 (mulf : (⟨S80000, .f32⟩ : BufTy).Contents (Elt F) → (⟨S80000, .f32⟩ : BufTy).Contents (Elt F) → (⟨S80000, .f32⟩ : BufTy).Contents (Elt F)),
    StableHlo.binary main_v43 main_v25 main_v44 (addf : (⟨S80000, .f32⟩ : BufTy).Contents (Elt F) → (⟨S80000, .f32⟩ : BufTy).Contents (Elt F) → (⟨S80000, .f32⟩ : BufTy).Contents (Elt F)),
    StableHlo.binary main_v34 main_v20 main_v45 (mulf : (⟨S80000, .f32⟩ : BufTy).Contents (Elt F) → (⟨S80000, .f32⟩ : BufTy).Contents (Elt F) → (⟨S80000, .f32⟩ : BufTy).Contents (Elt F)),
    StableHlo.binary main_v45 main_v30 main_v46 (addf : (⟨S80000, .f32⟩ : BufTy).Contents (Elt F) → (⟨S80000, .f32⟩ : BufTy).Contents (Elt F) → (⟨S80000, .f32⟩ : BufTy).Contents (Elt F)),
    StableHlo.unary main_v38 main_v47 (Host.exp : (⟨S80000, .f32⟩ : BufTy).Contents (Elt F) → (⟨S80000, .f32⟩ : BufTy).Contents (Elt F)),
    StableHlo.binary main_v47 main_v15 main_v48 (mulf : (⟨S80000, .f32⟩ : BufTy).Contents (Elt F) → (⟨S80000, .f32⟩ : BufTy).Contents (Elt F) → (⟨S80000, .f32⟩ : BufTy).Contents (Elt F)),
    StableHlo.unary main_v42 main_v49 (Host.exp : (⟨S80000, .f32⟩ : BufTy).Contents (Elt F) → (⟨S80000, .f32⟩ : BufTy).Contents (Elt F)),
    StableHlo.binary main_v49 main_v20 main_v50 (mulf : (⟨S80000, .f32⟩ : BufTy).Contents (Elt F) → (⟨S80000, .f32⟩ : BufTy).Contents (Elt F) → (⟨S80000, .f32⟩ : BufTy).Contents (Elt F)),
    StableHlo.nullary main_cst_4 (constant S_ .f32 0x3F000000#32),
    StableHlo.unary main_cst_4 main_v51 (broadcastInDim S80000 ![] bcast_S_S80000 : (⟨S_, .f32⟩ : BufTy).Contents (Elt F) → (⟨S80000, .f32⟩ : BufTy).Contents (Elt F)),
    StableHlo.binary main_v51 main_v48 main_v52 (mulf : (⟨S80000, .f32⟩ : BufTy).Contents (Elt F) → (⟨S80000, .f32⟩ : BufTy).Contents (Elt F) → (⟨S80000, .f32⟩ : BufTy).Contents (Elt F)),
    StableHlo.binary main_v44 main_v52 main_v53 (subf : (⟨S80000, .f32⟩ : BufTy).Contents (Elt F) → (⟨S80000, .f32⟩ : BufTy).Contents (Elt F) → (⟨S80000, .f32⟩ : BufTy).Contents (Elt F)) ]

/-- They touch TensorCore buffers only. -/
theorem p0_2_sub : (p0_2 : List (HloOp τ sig (Elt F))).Forall fun op => op.bufs ⊆ StableHlo.tcRefs τ sig :=
  ⟨StableHlo.unary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩

/-- Part 1 of @main, stretch 0. -/
def p1_0 : List (HloOp τ sig (Elt F)) :=
  [ StableHlo.nullary main_cst_5 (constant S_ .f32 0x3F000000#32),
    StableHlo.unary main_cst_5 main_v54 (broadcastInDim S80000 ![] bcast_S_S80000 : (⟨S_, .f32⟩ : BufTy).Contents (Elt F) → (⟨S80000, .f32⟩ : BufTy).Contents (Elt F)),
    StableHlo.binary main_v54 main_v50 main_v55 (mulf : (⟨S80000, .f32⟩ : BufTy).Contents (Elt F) → (⟨S80000, .f32⟩ : BufTy).Contents (Elt F) → (⟨S80000, .f32⟩ : BufTy).Contents (Elt F)),
    StableHlo.binary main_v46 main_v55 main_v56 (subf : (⟨S80000, .f32⟩ : BufTy).Contents (Elt F) → (⟨S80000, .f32⟩ : BufTy).Contents (Elt F) → (⟨S80000, .f32⟩ : BufTy).Contents (Elt F)),
    StableHlo.nullary main_cst_6 (constant S_ .f32 0x3F000000#32),
    StableHlo.unary main_cst_6 main_v57 (broadcastInDim S80000 ![] bcast_S_S80000 : (⟨S_, .f32⟩ : BufTy).Contents (Elt F) → (⟨S80000, .f32⟩ : BufTy).Contents (Elt F)),
    StableHlo.binary main_v57 main_v48 main_v58 (mulf : (⟨S80000, .f32⟩ : BufTy).Contents (Elt F) → (⟨S80000, .f32⟩ : BufTy).Contents (Elt F) → (⟨S80000, .f32⟩ : BufTy).Contents (Elt F)),
    StableHlo.binary main_v44 main_v58 main_v59 (addf : (⟨S80000, .f32⟩ : BufTy).Contents (Elt F) → (⟨S80000, .f32⟩ : BufTy).Contents (Elt F) → (⟨S80000, .f32⟩ : BufTy).Contents (Elt F)),
    StableHlo.nullary main_cst_7 (constant S_ .f32 0x3F000000#32),
    StableHlo.unary main_cst_7 main_v60 (broadcastInDim S80000 ![] bcast_S_S80000 : (⟨S_, .f32⟩ : BufTy).Contents (Elt F) → (⟨S80000, .f32⟩ : BufTy).Contents (Elt F)),
    StableHlo.binary main_v60 main_v50 main_v61 (mulf : (⟨S80000, .f32⟩ : BufTy).Contents (Elt F) → (⟨S80000, .f32⟩ : BufTy).Contents (Elt F) → (⟨S80000, .f32⟩ : BufTy).Contents (Elt F)),
    StableHlo.binary main_v46 main_v61 main_v62 (addf : (⟨S80000, .f32⟩ : BufTy).Contents (Elt F) → (⟨S80000, .f32⟩ : BufTy).Contents (Elt F) → (⟨S80000, .f32⟩ : BufTy).Contents (Elt F)),
    StableHlo.unary main_v53 main_v63 (broadcastInDim S80000x1 ![0] bcast_S80000_S80000x1_0 : (⟨S80000, .f32⟩ : BufTy).Contents (Elt F) → (⟨S80000x1, .f32⟩ : BufTy).Contents (Elt F)),
    StableHlo.unary main_v56 main_v64 (broadcastInDim S80000x1 ![0] bcast_S80000_S80000x1_0 : (⟨S80000, .f32⟩ : BufTy).Contents (Elt F) → (⟨S80000x1, .f32⟩ : BufTy).Contents (Elt F)),
    StableHlo.unary main_v59 main_v65 (broadcastInDim S80000x1 ![0] bcast_S80000_S80000x1_0 : (⟨S80000, .f32⟩ : BufTy).Contents (Elt F) → (⟨S80000x1, .f32⟩ : BufTy).Contents (Elt F)),
    StableHlo.unary main_v62 main_v66 (broadcastInDim S80000x1 ![0] bcast_S80000_S80000x1_0 : (⟨S80000, .f32⟩ : BufTy).Contents (Elt F) → (⟨S80000x1, .f32⟩ : BufTy).Contents (Elt F)),
    StableHlo.nary ![main_v63, main_v64, main_v65, main_v66] main_v67 (fun u => (concatenate S80000x4 1 [⟨S80000x1, (u 0 : (⟨S80000x1, .f32⟩ : BufTy).Contents (Elt F))⟩, ⟨S80000x1, (u 1 : (⟨S80000x1, .f32⟩ : BufTy).Contents (Elt F))⟩, ⟨S80000x1, (u 2 : (⟨S80000x1, .f32⟩ : BufTy).Contents (Elt F))⟩, ⟨S80000x1, (u 3 : (⟨S80000x1, .f32⟩ : BufTy).Contents (Elt F))⟩] concatenates_S80000x1_S80000x1_S80000x1_S80000x1_S80000x4_d1 : (⟨S80000x4, .f32⟩ : BufTy).Contents (Elt F))),
    StableHlo.reshape main_v67 main_v68 (rfl : (.f32 : EltTy) = .f32) shapeCasts_S80000x4_S4x20000x4,
    StableHlo.unary main_v68 main_v69 ((extractStridedSlice S4x20000x1 ![0, 0, 0] · slices_S4x20000x4_S4x20000x1_0_0_0) : (⟨S4x20000x4, .f32⟩ : BufTy).Contents (Elt F) → (⟨S4x20000x1, .f32⟩ : BufTy).Contents (Elt F)),
    StableHlo.reshape main_v69 main_v70 (rfl : (.f32 : EltTy) = .f32) shapeCasts_S4x20000x1_S4x20000,
    StableHlo.nullary main_cst_8 (constant S_ .f32 0x00000000#32),
    StableHlo.nullary main_cst_9 (constant S_ .f32 0x44480000#32) ]

/-- They touch TensorCore buffers only. -/
theorem p1_0_sub : (p1_0 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.nary_bufs_sub .., StableHlo.reshape_bufs_sub .., StableHlo.unary_bufs_sub .., StableHlo.reshape_bufs_sub .., StableHlo.nullary_bufs_sub .., StableHlo.nullary_bufs_sub ..⟩

/-- Part 1 of @main, stretch 1. -/
def p1_1 : List (HloOp τ sig (Elt F)) :=
  [ StableHlo.TRef.unary (.of main_cst_8 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S4x20000, .f32⟩) (broadcastInDim S4x20000 ![] bcast_S_S4x20000),
    StableHlo.TRef.binary (.of main_call1_v1 : StableHlo.TRef sig ⟨S4x20000, .f32⟩) (.of main_v70 : StableHlo.TRef sig ⟨S4x20000, .f32⟩) (.of main_call1_v2 : StableHlo.TRef sig ⟨S4x20000, .f32⟩) maximumf,
    StableHlo.TRef.unary (.of main_cst_9 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S4x20000, .f32⟩) (broadcastInDim S4x20000 ![] bcast_S_S4x20000),
    StableHlo.TRef.binary (.of main_call1_v4 : StableHlo.TRef sig ⟨S4x20000, .f32⟩) (.of main_call1_v2 : StableHlo.TRef sig ⟨S4x20000, .f32⟩) (.of main_v71 : StableHlo.TRef sig ⟨S4x20000, .f32⟩) minimumf ]

/-- They touch TensorCore buffers only. -/
theorem p1_1_sub : (p1_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- Part 1 of @main, stretch 2. -/
def p1_2 : List (HloOp τ sig (Elt F)) :=
  [ StableHlo.unary main_v68 main_v72 ((extractStridedSlice S4x20000x1 ![0, 0, 1] · slices_S4x20000x4_S4x20000x1_0_0_1) : (⟨S4x20000x4, .f32⟩ : BufTy).Contents (Elt F) → (⟨S4x20000x1, .f32⟩ : BufTy).Contents (Elt F)),
    StableHlo.reshape main_v72 main_v73 (rfl : (.f32 : EltTy) = .f32) shapeCasts_S4x20000x1_S4x20000,
    StableHlo.nullary main_cst_10 (constant S_ .f32 0x00000000#32),
    StableHlo.nullary main_cst_11 (constant S_ .f32 0x44480000#32) ]

/-- They touch TensorCore buffers only. -/
theorem p1_2_sub : (p1_2 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..⟩

/-- Part 1 of @main, stretch 3. -/
def p1_3 : List (HloOp τ sig (Elt F)) :=
  [ StableHlo.TRef.unary (.of main_cst_10 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S4x20000, .f32⟩) (broadcastInDim S4x20000 ![] bcast_S_S4x20000),
    StableHlo.TRef.binary (.of main_call2_v1 : StableHlo.TRef sig ⟨S4x20000, .f32⟩) (.of main_v73 : StableHlo.TRef sig ⟨S4x20000, .f32⟩) (.of main_call2_v2 : StableHlo.TRef sig ⟨S4x20000, .f32⟩) maximumf,
    StableHlo.TRef.unary (.of main_cst_11 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S4x20000, .f32⟩) (broadcastInDim S4x20000 ![] bcast_S_S4x20000),
    StableHlo.TRef.binary (.of main_call2_v4 : StableHlo.TRef sig ⟨S4x20000, .f32⟩) (.of main_call2_v2 : StableHlo.TRef sig ⟨S4x20000, .f32⟩) (.of main_v74 : StableHlo.TRef sig ⟨S4x20000, .f32⟩) minimumf ]

/-- They touch TensorCore buffers only. -/
theorem p1_3_sub : (p1_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- Part 1 of @main, stretch 4. -/
def p1_4 : List (HloOp τ sig (Elt F)) :=
  [ StableHlo.unary main_v68 main_v75 ((extractStridedSlice S4x20000x1 ![0, 0, 2] · slices_S4x20000x4_S4x20000x1_0_0_2) : (⟨S4x20000x4, .f32⟩ : BufTy).Contents (Elt F) → (⟨S4x20000x1, .f32⟩ : BufTy).Contents (Elt F)),
    StableHlo.reshape main_v75 main_v76 (rfl : (.f32 : EltTy) = .f32) shapeCasts_S4x20000x1_S4x20000,
    StableHlo.nullary main_cst_12 (constant S_ .f32 0x00000000#32),
    StableHlo.nullary main_cst_13 (constant S_ .f32 0x44480000#32) ]

/-- They touch TensorCore buffers only. -/
theorem p1_4_sub : (p1_4 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..⟩

/-- Part 1 of @main, stretch 5. -/
def p1_5 : List (HloOp τ sig (Elt F)) :=
  [ StableHlo.TRef.unary (.of main_cst_12 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S4x20000, .f32⟩) (broadcastInDim S4x20000 ![] bcast_S_S4x20000),
    StableHlo.TRef.binary (.of main_call3_v1 : StableHlo.TRef sig ⟨S4x20000, .f32⟩) (.of main_v76 : StableHlo.TRef sig ⟨S4x20000, .f32⟩) (.of main_call3_v2 : StableHlo.TRef sig ⟨S4x20000, .f32⟩) maximumf,
    StableHlo.TRef.unary (.of main_cst_13 : StableHlo.TRef sig ⟨S_, .f32⟩) (.of main_call3_v3 : StableHlo.TRef sig ⟨S_, .f32⟩) id,
    StableHlo.TRef.unary (.of main_call3_v3 : StableHlo.TRef sig ⟨S_, .f32⟩) (.of main_call3_v4 : StableHlo.TRef sig ⟨S4x20000, .f32⟩) (broadcastInDim S4x20000 ![] bcast_S_S4x20000),
    StableHlo.TRef.binary (.of main_call3_v4 : StableHlo.TRef sig ⟨S4x20000, .f32⟩) (.of main_call3_v2 : StableHlo.TRef sig ⟨S4x20000, .f32⟩) (.of main_v77 : StableHlo.TRef sig ⟨S4x20000, .f32⟩) minimumf ]

/-- They touch TensorCore buffers only. -/
theorem p1_5_sub : (p1_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- Part 1 of @main, stretch 6. -/
def p1_6 : List (HloOp τ sig (Elt F)) :=
  [ StableHlo.unary main_v68 main_v78 ((extractStridedSlice S4x20000x1 ![0, 0, 3] · slices_S4x20000x4_S4x20000x1_0_0_3) : (⟨S4x20000x4, .f32⟩ : BufTy).Contents (Elt F) → (⟨S4x20000x1, .f32⟩ : BufTy).Contents (Elt F)),
    StableHlo.reshape main_v78 main_v79 (rfl : (.f32 : EltTy) = .f32) shapeCasts_S4x20000x1_S4x20000,
    StableHlo.nullary main_cst_14 (constant S_ .f32 0x00000000#32),
    StableHlo.nullary main_cst_15 (constant S_ .f32 0x44480000#32) ]

/-- They touch TensorCore buffers only. -/
theorem p1_6_sub : (p1_6 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..⟩

/-- Part 1 of @main, stretch 7. -/
def p1_7 : List (HloOp τ sig (Elt F)) :=
  [ StableHlo.TRef.unary (.of main_cst_14 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S4x20000, .f32⟩) (broadcastInDim S4x20000 ![] bcast_S_S4x20000),
    StableHlo.TRef.binary (.of main_call4_v1 : StableHlo.TRef sig ⟨S4x20000, .f32⟩) (.of main_v79 : StableHlo.TRef sig ⟨S4x20000, .f32⟩) (.of main_call4_v2 : StableHlo.TRef sig ⟨S4x20000, .f32⟩) maximumf,
    StableHlo.TRef.unary (.of main_cst_15 : StableHlo.TRef sig ⟨S_, .f32⟩) (.of main_call4_v3 : StableHlo.TRef sig ⟨S_, .f32⟩) id,
    StableHlo.TRef.unary (.of main_call4_v3 : StableHlo.TRef sig ⟨S_, .f32⟩) (.of main_call4_v4 : StableHlo.TRef sig ⟨S4x20000, .f32⟩) (broadcastInDim S4x20000 ![] bcast_S_S4x20000),
    StableHlo.TRef.binary (.of main_call4_v4 : StableHlo.TRef sig ⟨S4x20000, .f32⟩) (.of main_call4_v2 : StableHlo.TRef sig ⟨S4x20000, .f32⟩) (.of main_v80 : StableHlo.TRef sig ⟨S4x20000, .f32⟩) minimumf ]

/-- They touch TensorCore buffers only. -/
theorem p1_7_sub : (p1_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- Part 1 of @main, stretch 8. -/
def p1_8 : List (HloOp τ sig (Elt F)) :=
  [ StableHlo.unary main_v71 main_v81 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_v74 main_v82 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_v77 main_v83 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_v80 main_v84 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_v8 main_v85 (broadcastInDim S4x20000x1 ![0, 1] bcast_S4x20000_S4x20000x1_0_1 : (⟨S4x20000, .f32⟩ : BufTy).Contents (Elt F) → (⟨S4x20000x1, .f32⟩ : BufTy).Contents (Elt F)),
    StableHlo.unary main_v6 main_v86 (broadcastInDim S4x20000x1 ![0, 1] bcast_S4x20000_S4x20000x1_0_1 : (⟨S4x20000, .f32⟩ : BufTy).Contents (Elt F) → (⟨S4x20000x1, .f32⟩ : BufTy).Contents (Elt F)),
    StableHlo.nary ![main_v81, main_v82, main_v83, main_v84, main_v85, main_v86] main_v87 (fun u => (concatenate S4x20000x6 2 [⟨S4x20000x1, (u 0 : (⟨S4x20000x1, .f32⟩ : BufTy).Contents (Elt F))⟩, ⟨S4x20000x1, (u 1 : (⟨S4x20000x1, .f32⟩ : BufTy).Contents (Elt F))⟩, ⟨S4x20000x1, (u 2 : (⟨S4x20000x1, .f32⟩ : BufTy).Contents (Elt F))⟩, ⟨S4x20000x1, (u 3 : (⟨S4x20000x1, .f32⟩ : BufTy).Contents (Elt F))⟩, ⟨S4x20000x1, (u 4 : (⟨S4x20000x1, .f32⟩ : BufTy).Contents (Elt F))⟩, ⟨S4x20000x1, (u 5 : (⟨S4x20000x1, .f32⟩ : BufTy).Contents (Elt F))⟩] concatenates_S4x20000x1_S4x20000x1_S4x20000x1_S4x20000x1_S4x20000x1_S4x20000x1_S4x20000x6_d2 : (⟨S4x20000x6, .f32⟩ : BufTy).Contents (Elt F))),
    StableHlo.unary main_v6 main_values ((fun x => (Host.topK S4x1000 1 (FloatOps.cmpfTotal .gt) x sliceFits_S4x20000_S4x1000).1) : (⟨S4x20000, .f32⟩ : BufTy).Contents (Elt F) → (⟨S4x1000, .f32⟩ : BufTy).Contents (Elt F)),
    StableHlo.unary main_v6 main_indices ((fun x => (Host.topK S4x1000 1 (FloatOps.cmpfTotal .gt) x sliceFits_S4x20000_S4x1000).2) : (⟨S4x20000, .f32⟩ : BufTy).Contents (Elt F) → (⟨S4x1000, .i32⟩ : BufTy).Contents (Elt F)),
    StableHlo.unary main_indices main_v88 (broadcastInDim S4x1000x1 ![0, 1] bcast_S4x1000_S4x1000x1_0_1 : (⟨S4x1000, .i32⟩ : BufTy).Contents (Elt F) → (⟨S4x1000x1, .i32⟩ : BufTy).Contents (Elt F)) ]

/-- They touch TensorCore buffers only. -/
theorem p1_8_sub : (p1_8 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub ..⟩

/-- Part 1 of @main, stretch 9. -/
def p1_9 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S4x1000x1, .i32⟩) (broadcastInDim S4x1000x1 ![] bcast_S_S4x1000x1),
    StableHlo.TRef.binary (.of main_v88 : StableHlo.TRef sig ⟨S4x1000x1, .i32⟩) (.of main_call5_v0 : StableHlo.TRef sig ⟨S4x1000x1, .i32⟩) (.of main_call5_v1 : StableHlo.TRef sig ⟨S4x1000x1, .i1⟩) (cmpi .slt),
    StableHlo.TRef.nullary (.of main_call5_c_0 : StableHlo.TRef sig ⟨S_, .i32⟩) (constantI S_ 32 20000#32),
    StableHlo.TRef.unary (.of main_call5_c_0 : StableHlo.TRef sig ⟨S_, .i32⟩) (.of main_call5_v2 : StableHlo.TRef sig ⟨S4x1000x1, .i32⟩) (broadcastInDim S4x1000x1 ![] bcast_S_S4x1000x1),
    StableHlo.TRef.binary (.of main_v88 : StableHlo.TRef sig ⟨S4x1000x1, .i32⟩) (.of main_call5_v2 : StableHlo.TRef sig ⟨S4x1000x1, .i32⟩) (.of main_call5_v3 : StableHlo.TRef sig ⟨S4x1000x1, .i32⟩) addi,
    StableHlo.TRef.ternary (.of main_call5_v1 : StableHlo.TRef sig ⟨S4x1000x1, .i1⟩) (.of main_call5_v3 : StableHlo.TRef sig ⟨S4x1000x1, .i32⟩) (.of main_v88 : StableHlo.TRef sig ⟨S4x1000x1, .i32⟩) (.of main_call5_v4 : StableHlo.TRef sig ⟨S4x1000x1, .i32⟩) select,
    StableHlo.TRef.nullary (.of main_call5_c_1 : StableHlo.TRef sig ⟨S1, .i32⟩) (constantI S1 32 19999#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v5 : StableHlo.TRef sig ⟨S4x1000x1, .i32⟩) (broadcastInDim S4x1000x1 ![] bcast_S_S4x1000x1),
    StableHlo.TRef.binary (.of main_call5_v4 : StableHlo.TRef sig ⟨S4x1000x1, .i32⟩) (.of main_call5_v5 : StableHlo.TRef sig ⟨S4x1000x1, .i32⟩) (.of main_call5_v6 : StableHlo.TRef sig ⟨S4x1000x1, .i1⟩) (cmpi .sge),
    StableHlo.TRef.unary (.of main_call5_c_1 : StableHlo.TRef sig ⟨S1, .i32⟩) (.of main_call5_v7 : StableHlo.TRef sig ⟨S1x1x1, .i32⟩) (broadcastInDim S1x1x1 ![2] bcast_S1_S1x1x1_2),
    StableHlo.TRef.unary (.of main_call5_v7 : StableHlo.TRef sig ⟨S1x1x1, .i32⟩) (.of main_call5_v8 : StableHlo.TRef sig ⟨S4x1000x1, .i32⟩) (broadcastInDim S4x1000x1 ![0, 1, 2] bcast_S1x1x1_S4x1000x1_0_1_2),
    StableHlo.TRef.binary (.of main_call5_v4 : StableHlo.TRef sig ⟨S4x1000x1, .i32⟩) (.of main_call5_v8 : StableHlo.TRef sig ⟨S4x1000x1, .i32⟩) (.of main_call5_v9 : StableHlo.TRef sig ⟨S4x1000x1, .i1⟩) (cmpi .sle),
    StableHlo.TRef.binary (.of main_call5_v6 : StableHlo.TRef sig ⟨S4x1000x1, .i1⟩) (.of main_call5_v9 : StableHlo.TRef sig ⟨S4x1000x1, .i1⟩) (.of main_call5_v10 : StableHlo.TRef sig ⟨S4x1000x1, .i1⟩) andi,
    StableHlo.TRef.nullary (.of main_call5_c_3 : StableHlo.TRef sig ⟨S_, .i1⟩) (constantI S_ 1 1#1),
    StableHlo.TRef.binary (.of main_call5_v10 : StableHlo.TRef sig ⟨S4x1000x1, .i1⟩) (.of main_call5_c_3 : StableHlo.TRef sig ⟨S_, .i1⟩) (.of main_call5_v11 : StableHlo.TRef sig ⟨S4x1000, .i1⟩) (fun x v => Host.reduce IntOp.andi x v reducesTo_S4x1000x1_S4x1000_d2 h_S_),
    StableHlo.TRef.binary (.of main_v87 : StableHlo.TRef sig ⟨S4x20000x6, .f32⟩) (.of main_call5_v4 : StableHlo.TRef sig ⟨S4x1000x1, .i32⟩) (.of main_call5_v12 : StableHlo.TRef sig ⟨S4x1000x6, .f32⟩) (fun x i => Host.gather gather_S4x20000x6_S4x1000x1_S4x1000x6_2_1_0_0_1_2_116 x i),
    StableHlo.TRef.unary (.of main_call5_v11 : StableHlo.TRef sig ⟨S4x1000, .i1⟩) (.of main_call5_v13 : StableHlo.TRef sig ⟨S4x1000x6, .i1⟩) (broadcastInDim S4x1000x6 ![0, 1] bcast_S4x1000_S4x1000x6_0_1),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v14 : StableHlo.TRef sig ⟨S4x1000x6, .f32⟩) (broadcastInDim S4x1000x6 ![] bcast_S_S4x1000x6),
    StableHlo.TRef.ternary (.of main_call5_v13 : StableHlo.TRef sig ⟨S4x1000x6, .i1⟩) (.of main_call5_v12 : StableHlo.TRef sig ⟨S4x1000x6, .f32⟩) (.of main_call5_v14 : StableHlo.TRef sig ⟨S4x1000x6, .f32⟩) (.of main_v89 : StableHlo.TRef sig ⟨S4x1000x6, .f32⟩) select ]

/-- They touch TensorCore buffers only. -/
theorem p1_9_sub : (p1_9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- Part 1 of @main, stretch 10. -/
def p1_10 : List (HloOp τ sig (Elt F)) :=
  [ StableHlo.unary main_v89 main_v90 ((extractStridedSlice S4x1000x1 ![0, 0, 0] · slices_S4x1000x6_S4x1000x1_0_0_0) : (⟨S4x1000x6, .f32⟩ : BufTy).Contents (Elt F) → (⟨S4x1000x1, .f32⟩ : BufTy).Contents (Elt F)),
    StableHlo.reshape main_v90 main_v91 (rfl : (.f32 : EltTy) = .f32) shapeCasts_S4x1000x1_S4x1000,
    StableHlo.unary main_v89 main_v92 ((extractStridedSlice S4x1000x1 ![0, 0, 1] · slices_S4x1000x6_S4x1000x1_0_0_1) : (⟨S4x1000x6, .f32⟩ : BufTy).Contents (Elt F) → (⟨S4x1000x1, .f32⟩ : BufTy).Contents (Elt F)),
    StableHlo.reshape main_v92 main_v93 (rfl : (.f32 : EltTy) = .f32) shapeCasts_S4x1000x1_S4x1000,
    StableHlo.unary main_v89 main_v94 ((extractStridedSlice S4x1000x1 ![0, 0, 2] · slices_S4x1000x6_S4x1000x1_0_0_2) : (⟨S4x1000x6, .f32⟩ : BufTy).Contents (Elt F) → (⟨S4x1000x1, .f32⟩ : BufTy).Contents (Elt F)),
    StableHlo.reshape main_v94 main_v95 (rfl : (.f32 : EltTy) = .f32) shapeCasts_S4x1000x1_S4x1000,
    StableHlo.unary main_v89 main_v96 ((extractStridedSlice S4x1000x1 ![0, 0, 3] · slices_S4x1000x6_S4x1000x1_0_0_3) : (⟨S4x1000x6, .f32⟩ : BufTy).Contents (Elt F) → (⟨S4x1000x1, .f32⟩ : BufTy).Contents (Elt F)),
    StableHlo.reshape main_v96 main_v97 (rfl : (.f32 : EltTy) = .f32) shapeCasts_S4x1000x1_S4x1000,
    StableHlo.unary main_v89 main_v98 ((extractStridedSlice S4x1000x1 ![0, 0, 5] · slices_S4x1000x6_S4x1000x1_0_0_5) : (⟨S4x1000x6, .f32⟩ : BufTy).Contents (Elt F) → (⟨S4x1000x1, .f32⟩ : BufTy).Contents (Elt F)),
    StableHlo.reshape main_v98 main_v99 (rfl : (.f32 : EltTy) = .f32) shapeCasts_S4x1000x1_S4x1000,
    StableHlo.nullary main_cst_16 (constant S_ .f32 0x3D4CCCCD#32) ]

/-- They touch TensorCore buffers only. -/
theorem p1_10_sub : (p1_10 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub ..⟩

/-- Part 2 of @main, stretch 0. -/
def p2_0 : List (HloOp τ sig (Elt F)) :=
  [ StableHlo.unary main_cst_16 main_v100 (broadcastInDim S4x1000 ![] bcast_S_S4x1000 : (⟨S_, .f32⟩ : BufTy).Contents (Elt F) → (⟨S4x1000, .f32⟩ : BufTy).Contents (Elt F)),
    StableHlo.binary main_v99 main_v100 main_v101 (cmpf .oge : (⟨S4x1000, .f32⟩ : BufTy).Contents (Elt F) → (⟨S4x1000, .f32⟩ : BufTy).Contents (Elt F) → (⟨S4x1000, .i1⟩ : BufTy).Contents (Elt F)),
    StableHlo.nullary main_cst_17 (constant S_ .f32 0x00000000#32),
    StableHlo.unary main_cst_17 main_v102 (broadcastInDim S4x1000 ![] bcast_S_S4x1000 : (⟨S_, .f32⟩ : BufTy).Contents (Elt F) → (⟨S4x1000, .f32⟩ : BufTy).Contents (Elt F)),
    StableHlo.binary main_v95 main_v102 main_v103 (subf : (⟨S4x1000, .f32⟩ : BufTy).Contents (Elt F) → (⟨S4x1000, .f32⟩ : BufTy).Contents (Elt F) → (⟨S4x1000, .f32⟩ : BufTy).Contents (Elt F)),
    StableHlo.binary main_v91 main_v103 main_v104 (cmpf .olt : (⟨S4x1000, .f32⟩ : BufTy).Contents (Elt F) → (⟨S4x1000, .f32⟩ : BufTy).Contents (Elt F) → (⟨S4x1000, .i1⟩ : BufTy).Contents (Elt F)),
    StableHlo.binary main_v101 main_v104 main_v105 (andi : (⟨S4x1000, .i1⟩ : BufTy).Contents (Elt F) → (⟨S4x1000, .i1⟩ : BufTy).Contents (Elt F) → (⟨S4x1000, .i1⟩ : BufTy).Contents (Elt F)),
    StableHlo.nullary main_cst_18 (constant S_ .f32 0x00000000#32),
    StableHlo.unary main_cst_18 main_v106 (broadcastInDim S4x1000 ![] bcast_S_S4x1000 : (⟨S_, .f32⟩ : BufTy).Contents (Elt F) → (⟨S4x1000, .f32⟩ : BufTy).Contents (Elt F)),
    StableHlo.binary main_v97 main_v106 main_v107 (subf : (⟨S4x1000, .f32⟩ : BufTy).Contents (Elt F) → (⟨S4x1000, .f32⟩ : BufTy).Contents (Elt F) → (⟨S4x1000, .f32⟩ : BufTy).Contents (Elt F)),
    StableHlo.binary main_v93 main_v107 main_v108 (cmpf .olt : (⟨S4x1000, .f32⟩ : BufTy).Contents (Elt F) → (⟨S4x1000, .f32⟩ : BufTy).Contents (Elt F) → (⟨S4x1000, .i1⟩ : BufTy).Contents (Elt F)),
    StableHlo.binary main_v105 main_v108 main_v109 (andi : (⟨S4x1000, .i1⟩ : BufTy).Contents (Elt F) → (⟨S4x1000, .i1⟩ : BufTy).Contents (Elt F) → (⟨S4x1000, .i1⟩ : BufTy).Contents (Elt F)),
    StableHlo.binary main_v95 main_v91 main_v110 (subf : (⟨S4x1000, .f32⟩ : BufTy).Contents (Elt F) → (⟨S4x1000, .f32⟩ : BufTy).Contents (Elt F) → (⟨S4x1000, .f32⟩ : BufTy).Contents (Elt F)),
    StableHlo.binary main_v97 main_v93 main_v111 (subf : (⟨S4x1000, .f32⟩ : BufTy).Contents (Elt F) → (⟨S4x1000, .f32⟩ : BufTy).Contents (Elt F) → (⟨S4x1000, .f32⟩ : BufTy).Contents (Elt F)),
    StableHlo.binary main_v110 main_v111 main_v112 (mulf : (⟨S4x1000, .f32⟩ : BufTy).Contents (Elt F) → (⟨S4x1000, .f32⟩ : BufTy).Contents (Elt F) → (⟨S4x1000, .f32⟩ : BufTy).Contents (Elt F)),
    StableHlo.unary main_v91 main_v113 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v91 main_v114 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v113 main_v115 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v114 main_v116 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v115 main_v116 main_v117 (maximumf : (⟨S4x1000x1000, .f32⟩ : BufTy).Contents (Elt F) → (⟨S4x1000x1000, .f32⟩ : BufTy).Contents (Elt F) → (⟨S4x1000x1000, .f32⟩ : BufTy).Contents (Elt F)),
    StableHlo.unary main_v93 main_v118 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v93 main_v119 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v118 main_v120 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v119 main_v121 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v120 main_v121 main_v122 (maximumf : (⟨S4x1000x1000, .f32⟩ : BufTy).Contents (Elt F) → (⟨S4x1000x1000, .f32⟩ : BufTy).Contents (Elt F) → (⟨S4x1000x1000, .f32⟩ : BufTy).Contents (Elt F)),
    StableHlo.unary main_v95 main_v123 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v95 main_v124 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v123 main_v125 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v124 main_v126 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v125 main_v126 main_v127 (minimumf : (⟨S4x1000x1000, .f32⟩ : BufTy).Contents (Elt F) → (⟨S4x1000x1000, .f32⟩ : BufTy).Contents (Elt F) → (⟨S4x1000x1000, .f32⟩ : BufTy).Contents (Elt F)),
    StableHlo.unary main_v97 main_v128 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v97 main_v129 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v128 main_v130 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v129 main_v131 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v130 main_v131 main_v132 (minimumf : (⟨S4x1000x1000, .f32⟩ : BufTy).Contents (Elt F) → (⟨S4x1000x1000, .f32⟩ : BufTy).Contents (Elt F) → (⟨S4x1000x1000, .f32⟩ : BufTy).Contents (Elt F)),
    StableHlo.binary main_v127 main_v117 main_v133 (subf : (⟨S4x1000x1000, .f32⟩ : BufTy).Contents (Elt F) → (⟨S4x1000x1000, .f32⟩ : BufTy).Contents (Elt F) → (⟨S4x1000x1000, .f32⟩ : BufTy).Contents (Elt F)),
    StableHlo.nullary main_cst_19 (constant S_ .f32 0x00000000#32) ]

/-- They touch TensorCore buffers only. -/
theorem p2_0_sub : (p2_0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩

/-- Part 2 of @main, stretch 1. -/
def p2_1 : List (HloOp τ sig (Elt F)) :=
  [ StableHlo.TRef.unary (.of main_cst_19 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S4x1000x1000, .f32⟩) (broadcastInDim S4x1000x1000 ![] bcast_S_S4x1000x1000),
    StableHlo.TRef.binary (.of main_call6_v1 : StableHlo.TRef sig ⟨S4x1000x1000, .f32⟩) (.of main_v133 : StableHlo.TRef sig ⟨S4x1000x1000, .f32⟩) (.of main_v134 : StableHlo.TRef sig ⟨S4x1000x1000, .f32⟩) maximumf ]

/-- They touch TensorCore buffers only. -/
theorem p2_1_sub : (p2_1 : List (HloOp τ sig (Elt F))).Forall fun op => op.bufs ⊆ StableHlo.tcRefs τ sig :=
  ⟨StableHlo.unary_bufs_sub .., StableHlo.unary_bufs_sub .., StableHlo.binary_bufs_sub ..⟩

/-- Part 2 of @main, stretch 2. -/
def p2_2 : List (HloOp τ sig (Elt F)) :=
  [ StableHlo.binary main_v132 main_v122 main_v135 (subf : (⟨S4x1000x1000, .f32⟩ : BufTy).Contents (Elt F) → (⟨S4x1000x1000, .f32⟩ : BufTy).Contents (Elt F) → (⟨S4x1000x1000, .f32⟩ : BufTy).Contents (Elt F)),
    StableHlo.nullary main_cst_20 (constant S_ .f32 0x00000000#32) ]

/-- They touch TensorCore buffers only. -/
theorem p2_2_sub : (p2_2 : List (HloOp τ sig (Elt F))).Forall fun op => op.bufs ⊆ StableHlo.tcRefs τ sig :=
  ⟨StableHlo.binary_bufs_sub .., StableHlo.nullary_bufs_sub ..⟩

/-- Part 2 of @main, stretch 3. -/
def p2_3 : List (HloOp τ sig (Elt F)) :=
  [ StableHlo.TRef.unary (.of main_cst_20 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S4x1000x1000, .f32⟩) (broadcastInDim S4x1000x1000 ![] bcast_S_S4x1000x1000),
    StableHlo.TRef.binary (.of main_call7_v1 : StableHlo.TRef sig ⟨S4x1000x1000, .f32⟩) (.of main_v135 : StableHlo.TRef sig ⟨S4x1000x1000, .f32⟩) (.of main_v136 : StableHlo.TRef sig ⟨S4x1000x1000, .f32⟩) maximumf ]

/-- They touch TensorCore buffers only. -/
theorem p2_3_sub : (p2_3 : List (HloOp τ sig (Elt F))).Forall fun op => op.bufs ⊆ StableHlo.tcRefs τ sig :=
  ⟨StableHlo.unary_bufs_sub .., StableHlo.unary_bufs_sub .., StableHlo.binary_bufs_sub ..⟩

/-- Part 2 of @main, stretch 4. -/
def p2_4 : List (HloOp τ sig (Elt F)) :=
  [ StableHlo.binary main_v134 main_v136 main_v137 (mulf : (⟨S4x1000x1000, .f32⟩ : BufTy).Contents (Elt F) → (⟨S4x1000x1000, .f32⟩ : BufTy).Contents (Elt F) → (⟨S4x1000x1000, .f32⟩ : BufTy).Contents (Elt F)),
    StableHlo.unary main_v112 main_v138 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v112 main_v139 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v138 main_v140 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v139 main_v141 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v140 main_v141 main_v142 (addf : (⟨S4x1000x1000, .f32⟩ : BufTy).Contents (Elt F) → (⟨S4x1000x1000, .f32⟩ : BufTy).Contents (Elt F) → (⟨S4x1000x1000, .f32⟩ : BufTy).Contents (Elt F)),
    StableHlo.binary main_v142 main_v137 main_v143 (subf : (⟨S4x1000x1000, .f32⟩ : BufTy).Contents (Elt F) → (⟨S4x1000x1000, .f32⟩ : BufTy).Contents (Elt F) → (⟨S4x1000x1000, .f32⟩ : BufTy).Contents (Elt F)),
    StableHlo.nullary main_cst_21 (constant S_ .f32 0x00000000#32),
    StableHlo.unary main_cst_21 main_v144 (broadcastInDim S4x1000x1000 ![] bcast_S_S4x1000x1000 : (⟨S_, .f32⟩ : BufTy).Contents (Elt F) → (⟨S4x1000x1000, .f32⟩ : BufTy).Contents (Elt F)),
    StableHlo.binary main_v143 main_v144 main_v145 (cmpf .ogt : (⟨S4x1000x1000, .f32⟩ : BufTy).Contents (Elt F) → (⟨S4x1000x1000, .f32⟩ : BufTy).Contents (Elt F) → (⟨S4x1000x1000, .i1⟩ : BufTy).Contents (Elt F)),
    StableHlo.binary main_v137 main_v143 main_v146 (Host.divf : (⟨S4x1000x1000, .f32⟩ : BufTy).Contents (Elt F) → (⟨S4x1000x1000, .f32⟩ : BufTy).Contents (Elt F) → (⟨S4x1000x1000, .f32⟩ : BufTy).Contents (Elt F)),
    StableHlo.nullary main_cst_22 (constant S_ .f32 0x00000000#32) ]

/-- They touch TensorCore buffers only. -/
theorem p2_4_sub : (p2_4 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩

/-- Part 2 of @main, stretch 5. -/
def p2_5 : List (HloOp τ sig (Elt F)) :=
  [ StableHlo.TRef.unary (.of main_cst_22 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S4x1000x1000, .f32⟩) (broadcastInDim S4x1000x1000 ![] bcast_S_S4x1000x1000),
    StableHlo.TRef.ternary (.of main_v145 : StableHlo.TRef sig ⟨S4x1000x1000, .i1⟩) (.of main_v146 : StableHlo.TRef sig ⟨S4x1000x1000, .f32⟩) (.of main_call8_v1 : StableHlo.TRef sig ⟨S4x1000x1000, .f32⟩) (.of main_v147 : StableHlo.TRef sig ⟨S4x1000x1000, .f32⟩) select ]

/-- They touch TensorCore buffers only. -/
theorem p2_5_sub : (p2_5 : List (HloOp τ sig (Elt F))).Forall fun op => op.bufs ⊆ StableHlo.tcRefs τ sig :=
  ⟨StableHlo.unary_bufs_sub .., StableHlo.unary_bufs_sub .., StableHlo.ternary_bufs_sub ..⟩

/-- Part 2 of @main, stretch 6. -/
def p2_6 : List (HloOp τ sig (Elt F)) :=
  [ StableHlo.nullary main_v148 (iotaInDim S1000 32 0),
    StableHlo.nullary main_c (constantI S_ 32 0#32),
    StableHlo.nullary main_c_23 (constantI S_ 32 0#32),
    StableHlo.unary main_v147 main_v149_0 id,
    StableHlo.unary main_v148 main_v149_1 id,
    StableHlo.unary main_c_23 main_v149_2 id ]

/-- They touch TensorCore buffers only. -/
theorem p2_6_sub : (p2_6 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.unary_bufs_sub .., StableHlo.unary_bufs_sub ..⟩

/-- Part 3 of @main, stretch 0. -/
def p3_0 : List (HloOp τ sig (Elt F)) :=
  [ StableHlo.unary main_c main_v149_3 id,
    StableHlo.unary main_v109 main_v149_4 id ]

/-- They touch TensorCore buffers only. -/
theorem p3_0_sub : (p3_0 : List (HloOp τ sig (Elt F))).Forall fun op => op.bufs ⊆ StableHlo.tcRefs τ sig :=
  ⟨StableHlo.unary_bufs_sub .., StableHlo.unary_bufs_sub ..⟩

/-- Part 3 of @main, stretch 1. -/
def p3_1 : List (HloOp τ sig (Elt F)) :=
  [ StableHlo.TRef.unary (.of main_v149_4 : StableHlo.TRef sig ⟨S4x1000, .i1⟩) (.of main_call9_v0 : StableHlo.TRef sig ⟨S4x1000, .i32⟩) (extui 32 · natLt_1_32),
    StableHlo.TRef.nullary (.of main_call9_call0_c : StableHlo.TRef sig ⟨S_, .i32⟩) (constantI S_ 32 0#32),
    StableHlo.TRef.unary (.of main_call9_call0_c : StableHlo.TRef sig ⟨S_, .i32⟩) (.of main_call9_call0_v0 : StableHlo.TRef sig ⟨S_, .i32⟩) (broadcastInDim S_ ![] bcast_S_S_),
    StableHlo.TRef.binary (.of main_call9_v0 : StableHlo.TRef sig ⟨S4x1000, .i32⟩) (.of main_call9_call0_v0 : StableHlo.TRef sig ⟨S_, .i32⟩) (.of main_v150 : StableHlo.TRef sig ⟨S4x1000, .i32⟩) (fun x v => Host.reduceWindow IntOp.addi ![1, 1000] ![1, 1] ![0, 999] ![0, 0] x v reduceWindows_S4x1000_S4x1000_w1s1p0_0_w1000s1p999_0 h_S_) ]

/-- They touch TensorCore buffers only. -/
theorem p3_1_sub : (p3_1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩

/-- Part 3 of @main, stretch 2. -/
def p3_2 : List (HloOp τ sig (Elt F)) :=
  [ StableHlo.nullary main_c_24 (constantI S_ 32 1#32),
    StableHlo.unary main_c_24 main_v151 (broadcastInDim S4x1000 ![] bcast_S_S4x1000 : (⟨S_, .i32⟩ : BufTy).Contents (Elt F) → (⟨S4x1000, .i32⟩ : BufTy).Contents (Elt F)),
    StableHlo.binary main_v150 main_v151 main_v152 (subi : (⟨S4x1000, .i32⟩ : BufTy).Contents (Elt F) → (⟨S4x1000, .i32⟩ : BufTy).Contents (Elt F) → (⟨S4x1000, .i32⟩ : BufTy).Contents (Elt F)),
    StableHlo.nullary main_c_25 (constantI S_ 32 300#32),
    StableHlo.unary main_c_25 main_v153 (broadcastInDim S4x1000 ![] bcast_S_S4x1000 : (⟨S_, .i32⟩ : BufTy).Contents (Elt F) → (⟨S4x1000, .i32⟩ : BufTy).Contents (Elt F)),
    StableHlo.binary main_v152 main_v153 main_v154 (cmpi .slt : (⟨S4x1000, .i32⟩ : BufTy).Contents (Elt F) → (⟨S4x1000, .i32⟩ : BufTy).Contents (Elt F) → (⟨S4x1000, .i1⟩ : BufTy).Contents (Elt F)),
    StableHlo.binary main_v149_4 main_v154 main_v155 (andi : (⟨S4x1000, .i1⟩ : BufTy).Contents (Elt F) → (⟨S4x1000, .i1⟩ : BufTy).Contents (Elt F) → (⟨S4x1000, .i1⟩ : BufTy).Contents (Elt F)),
    StableHlo.nullary main_c_26 (constantI S_ 32 300#32) ]

/-- They touch TensorCore buffers only. -/
theorem p3_2_sub : (p3_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩

/-- Part 3 of @main, stretch 3. -/
def p3_3 : List (HloOp τ sig (Elt F)) :=
  [ StableHlo.TRef.unary (.of main_c_26 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S4x1000, .i32⟩) (broadcastInDim S4x1000 ![] bcast_S_S4x1000),
    StableHlo.TRef.ternary (.of main_v155 : StableHlo.TRef sig ⟨S4x1000, .i1⟩) (.of main_v152 : StableHlo.TRef sig ⟨S4x1000, .i32⟩) (.of main_call10_v1 : StableHlo.TRef sig ⟨S4x1000, .i32⟩) (.of main_v156 : StableHlo.TRef sig ⟨S4x1000, .i32⟩) select ]

/-- They touch TensorCore buffers only. -/
theorem p3_3_sub : (p3_3 : List (HloOp τ sig (Elt F))).Forall fun op => op.bufs ⊆ StableHlo.tcRefs τ sig :=
  ⟨StableHlo.unary_bufs_sub .., StableHlo.unary_bufs_sub .., StableHlo.ternary_bufs_sub ..⟩

/-- Part 3 of @main, stretch 4. -/
def p3_4 : List (HloOp τ sig (Elt F)) :=
  [ StableHlo.nullary main_cst_27 (constant S_ .f32 0x00000000#32),
    StableHlo.unary main_cst_27 main_v157 (broadcastInDim S4x301x6 ![] bcast_S_S4x301x6 : (⟨S_, .f32⟩ : BufTy).Contents (Elt F) → (⟨S4x301x6, .f32⟩ : BufTy).Contents (Elt F)),
    StableHlo.nullary main_v158 (iotaInDim S4 32 0),
    StableHlo.unary main_v158 main_v159 (broadcastInDim S4x1 ![0] bcast_S4_S4x1_0 : (⟨S4, .i32⟩ : BufTy).Contents (Elt F) → (⟨S4x1, .i32⟩ : BufTy).Contents (Elt F)),
    StableHlo.unary main_v149_4 main_v160 (broadcastInDim S4x1000x1 ![0, 1] bcast_S4x1000_S4x1000x1_0_1 : (⟨S4x1000, .i1⟩ : BufTy).Contents (Elt F) → (⟨S4x1000x1, .i1⟩ : BufTy).Contents (Elt F)),
    StableHlo.unary main_v160 main_v161 (uitofp .f32 : (⟨S4x1000x1, .i1⟩ : BufTy).Contents (Elt F) → (⟨S4x1000x1, .f32⟩ : BufTy).Contents (Elt F)),
    StableHlo.unary main_v161 main_v162 (broadcastInDim S4x1000x6 ![0, 1, 2] bcast_S4x1000x1_S4x1000x6_0_1_2 : (⟨S4x1000x1, .f32⟩ : BufTy).Contents (Elt F) → (⟨S4x1000x6, .f32⟩ : BufTy).Contents (Elt F)),
    StableHlo.binary main_v89 main_v162 main_v163 (mulf : (⟨S4x1000x6, .f32⟩ : BufTy).Contents (Elt F) → (⟨S4x1000x6, .f32⟩ : BufTy).Contents (Elt F) → (⟨S4x1000x6, .f32⟩ : BufTy).Contents (Elt F)),
    StableHlo.nullary main_c_28 (constantI S_ 32 0#32),
    StableHlo.unary main_c_28 main_v164 (broadcastInDim S4x1 ![] bcast_S_S4x1 : (⟨S_, .i32⟩ : BufTy).Contents (Elt F) → (⟨S4x1, .i32⟩ : BufTy).Contents (Elt F)),
    StableHlo.binary main_v159 main_v164 main_v165 (cmpi .slt : (⟨S4x1, .i32⟩ : BufTy).Contents (Elt F) → (⟨S4x1, .i32⟩ : BufTy).Contents (Elt F) → (⟨S4x1, .i1⟩ : BufTy).Contents (Elt F)),
    StableHlo.nullary main_c_29 (constantI S_ 32 4#32),
    StableHlo.unary main_c_29 main_v166 (broadcastInDim S4x1 ![] bcast_S_S4x1 : (⟨S_, .i32⟩ : BufTy).Contents (Elt F) → (⟨S4x1, .i32⟩ : BufTy).Contents (Elt F)),
    StableHlo.binary main_v159 main_v166 main_v167 (addi : (⟨S4x1, .i32⟩ : BufTy).Contents (Elt F) → (⟨S4x1, .i32⟩ : BufTy).Contents (Elt F) → (⟨S4x1, .i32⟩ : BufTy).Contents (Elt F)),
    StableHlo.ternary main_v165 main_v167 main_v159 main_v168 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    StableHlo.nullary main_c_30 (constantI S_ 32 0#32),
    StableHlo.unary main_c_30 main_v169 (broadcastInDim S4x1000 ![] bcast_S_S4x1000 : (⟨S_, .i32⟩ : BufTy).Contents (Elt F) → (⟨S4x1000, .i32⟩ : BufTy).Contents (Elt F)),
    StableHlo.binary main_v156 main_v169 main_v170 (cmpi .slt : (⟨S4x1000, .i32⟩ : BufTy).Contents (Elt F) → (⟨S4x1000, .i32⟩ : BufTy).Contents (Elt F) → (⟨S4x1000, .i1⟩ : BufTy).Contents (Elt F)),
    StableHlo.nullary main_c_31 (constantI S_ 32 301#32),
    StableHlo.unary main_c_31 main_v171 (broadcastInDim S4x1000 ![] bcast_S_S4x1000 : (⟨S_, .i32⟩ : BufTy).Contents (Elt F) → (⟨S4x1000, .i32⟩ : BufTy).Contents (Elt F)),
    StableHlo.binary main_v156 main_v171 main_v172 (addi : (⟨S4x1000, .i32⟩ : BufTy).Contents (Elt F) → (⟨S4x1000, .i32⟩ : BufTy).Contents (Elt F) → (⟨S4x1000, .i32⟩ : BufTy).Contents (Elt F)),
    StableHlo.ternary main_v170 main_v172 main_v156 main_v173 (select : (⟨S4x1000, .i1⟩ : BufTy).Contents (Elt F) → (⟨S4x1000, .i32⟩ : BufTy).Contents (Elt F) → (⟨S4x1000, .i32⟩ : BufTy).Contents (Elt F) → (⟨S4x1000, .i32⟩ : BufTy).Contents (Elt F)),
    StableHlo.unary main_v168 main_v174 (broadcastInDim S4x1000 ![0, 1] bcast_S4x1_S4x1000_0_1 : (⟨S4x1, .i32⟩ : BufTy).Contents (Elt F) → (⟨S4x1000, .i32⟩ : BufTy).Contents (Elt F)),
    StableHlo.unary main_v174 main_v175 (broadcastInDim S4x1000x1 ![0, 1] bcast_S4x1000_S4x1000x1_0_1 : (⟨S4x1000, .i32⟩ : BufTy).Contents (Elt F) → (⟨S4x1000x1, .i32⟩ : BufTy).Contents (Elt F)),
    StableHlo.unary main_v173 main_v176 (broadcastInDim S4x1000x1 ![0, 1] bcast_S4x1000_S4x1000x1_0_1 : (⟨S4x1000, .i32⟩ : BufTy).Contents (Elt F) → (⟨S4x1000x1, .i32⟩ : BufTy).Contents (Elt F)),
    StableHlo.binary main_v175 main_v176 main_v177 ((fun a b => concatenate S4x1000x2 2 [⟨S4x1000x1, a⟩, ⟨S4x1000x1, b⟩] concatenates_S4x1000x1_S4x1000x1_S4x1000x2_d2) : (⟨S4x1000x1, .i32⟩ : BufTy).Contents (Elt F) → (⟨S4x1000x1, .i32⟩ : BufTy).Contents (Elt F) → (⟨S4x1000x2, .i32⟩ : BufTy).Contents (Elt F)),
    StableHlo.ternary main_v157 main_v177 main_v163 main_v178 ((fun x i u => Host.scatter scatter_S4x301x6_S4x1000x2_S4x1000x6_2_01_01_2 (fun _ b => b) x i u) : (⟨S4x301x6, .f32⟩ : BufTy).Contents (Elt F) → (⟨S4x1000x2, .i32⟩ : BufTy).Contents (Elt F) → (⟨S4x1000x6, .f32⟩ : BufTy).Contents (Elt F) → (⟨S4x301x6, .f32⟩ : BufTy).Contents (Elt F)),
    StableHlo.unary main_v178 main_v179 ((extractStridedSlice S4x300x6 ![0, 0, 0] · slices_S4x301x6_S4x300x6_0_0_0) : (⟨S4x301x6, .f32⟩ : BufTy).Contents (Elt F) → (⟨S4x300x6, .f32⟩ : BufTy).Contents (Elt F)) ]

/-- They touch TensorCore buffers only. -/
theorem p3_4_sub : (p3_4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub .., StableHlo.unary_bufs_sub ..⟩

/-- The loop condition's operations. -/
def condOps : List (HloOp τ sig (Elt F)) :=
  [ StableHlo.nullary main_while0c_c_36 (constantI S_ 32 1000#32),
    StableHlo.binary main_v149_2 main_while0c_c_36 main_while0c_v180 (cmpi .slt : (⟨S_, .i32⟩ : BufTy).Contents (Elt F) → (⟨S_, .i32⟩ : BufTy).Contents (Elt F) → (⟨S_, .i1⟩ : BufTy).Contents (Elt F)) ]

/-- They touch TensorCore buffers only. -/
theorem condOps_sub : (condOps : List (HloOp τ sig (Elt F))).Forall fun op => op.bufs ⊆ StableHlo.tcRefs τ sig :=
  ⟨StableHlo.nullary_bufs_sub .., StableHlo.binary_bufs_sub ..⟩

/-- One trip of the loop's body. -/
def bodyOps : List (HloOp τ sig (Elt F)) :=
  [ StableHlo.nullary main_while0b_c_36 (constantI S_ 32 1#32),
    StableHlo.binary main_v149_3 main_while0b_c_36 main_while0b_v180 (addi : (⟨S_, .i32⟩ : BufTy).Contents (Elt F) → (⟨S_, .i32⟩ : BufTy).Contents (Elt F) → (⟨S_, .i32⟩ : BufTy).Contents (Elt F)),
    StableHlo.nullary main_while0b_c_37 (constantI S_ 32 0#32),
    StableHlo.binary main_v149_3 main_while0b_c_37 main_while0b_v181 (cmpi .slt : (⟨S_, .i32⟩ : BufTy).Contents (Elt F) → (⟨S_, .i32⟩ : BufTy).Contents (Elt F) → (⟨S_, .i1⟩ : BufTy).Contents (Elt F)),
    StableHlo.unary main_v149_3 main_while0b_v182 (id : (⟨S_, .i32⟩ : BufTy).Contents (Elt F) → (⟨S_, .i32⟩ : BufTy).Contents (Elt F)),
    StableHlo.nullary main_while0b_c_38 (constantI S_ 32 1000#32),
    StableHlo.binary main_while0b_v182 main_while0b_c_38 main_while0b_v183 (addi : (⟨S_, .i32⟩ : BufTy).Contents (Elt F) → (⟨S_, .i32⟩ : BufTy).Contents (Elt F) → (⟨S_, .i32⟩ : BufTy).Contents (Elt F)),
    StableHlo.ternary main_while0b_v181 main_while0b_v183 main_v149_3 main_while0b_v184 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_39 (constantI S_ 32 0#32),
    StableHlo.unaryIndexed main_v149_4 ![main_while0b_c_39, main_while0b_v184] ⟨S_, .i32⟩ main_while0b_v185 ((fun x i => Host.dynamicSlice S4x1 x (fun k => (i k (Shape.Idx.first h_S_)).toInt) sliceFits_S4x1000_S4x1) : (⟨S4x1000, .i1⟩ : BufTy).Contents (Elt F) → (Fin 2 → (⟨S_, .i32⟩ : BufTy).Contents (Elt F)) → (⟨S4x1, .i1⟩ : BufTy).Contents (Elt F)),
    StableHlo.nullary main_while0b_c_40 (constantI S_ 32 0#32),
    StableHlo.binary main_v149_3 main_while0b_c_40 main_while0b_v186 (cmpi .slt : (⟨S_, .i32⟩ : BufTy).Contents (Elt F) → (⟨S_, .i32⟩ : BufTy).Contents (Elt F) → (⟨S_, .i1⟩ : BufTy).Contents (Elt F)),
    StableHlo.unary main_v149_3 main_while0b_v187 (id : (⟨S_, .i32⟩ : BufTy).Contents (Elt F) → (⟨S_, .i32⟩ : BufTy).Contents (Elt F)),
    StableHlo.nullary main_while0b_c_41 (constantI S_ 32 1000#32),
    StableHlo.binary main_while0b_v187 main_while0b_c_41 main_while0b_v188 (addi : (⟨S_, .i32⟩ : BufTy).Contents (Elt F) → (⟨S_, .i32⟩ : BufTy).Contents (Elt F) → (⟨S_, .i32⟩ : BufTy).Contents (Elt F)),
    StableHlo.ternary main_while0b_v186 main_while0b_v188 main_v149_3 main_while0b_v189 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_42 (constantI S_ 32 0#32),
    StableHlo.nullary main_while0b_c_43 (constantI S_ 32 0#32),
    StableHlo.unaryIndexed main_v149_0 ![main_while0b_c_42, main_while0b_v189, main_while0b_c_43] ⟨S_, .i32⟩ main_while0b_v190 ((fun x i => Host.dynamicSlice S4x1x1000 x (fun k => (i k (Shape.Idx.first h_S_)).toInt) sliceFits_S4x1000x1000_S4x1x1000) : (⟨S4x1000x1000, .f32⟩ : BufTy).Contents (Elt F) → (Fin 3 → (⟨S_, .i32⟩ : BufTy).Contents (Elt F)) → (⟨S4x1x1000, .f32⟩ : BufTy).Contents (Elt F)),
    StableHlo.reshape main_while0b_v190 main_while0b_v191 (rfl : (.f32 : EltTy) = .f32) shapeCasts_S4x1x1000_S4x1000,
    StableHlo.nullary main_while0b_cst_44 (constant S_ .f32 0x3F000000#32),
    StableHlo.unary main_while0b_cst_44 main_while0b_v192 (broadcastInDim S4x1000 ![] bcast_S_S4x1000 : (⟨S_, .f32⟩ : BufTy).Contents (Elt F) → (⟨S4x1000, .f32⟩ : BufTy).Contents (Elt F)),
    StableHlo.binary main_while0b_v191 main_while0b_v192 main_while0b_v193 (cmpf .ogt : (⟨S4x1000, .f32⟩ : BufTy).Contents (Elt F) → (⟨S4x1000, .f32⟩ : BufTy).Contents (Elt F) → (⟨S4x1000, .i1⟩ : BufTy).Contents (Elt F)),
    StableHlo.unary main_while0b_v185 main_while0b_v194 (broadcastInDim S4x1000 ![0, 1] bcast_S4x1_S4x1000_0_1 : (⟨S4x1, .i1⟩ : BufTy).Contents (Elt F) → (⟨S4x1000, .i1⟩ : BufTy).Contents (Elt F)),
    StableHlo.binary main_while0b_v194 main_while0b_v193 main_while0b_v195 (andi : (⟨S4x1000, .i1⟩ : BufTy).Contents (Elt F) → (⟨S4x1000, .i1⟩ : BufTy).Contents (Elt F) → (⟨S4x1000, .i1⟩ : BufTy).Contents (Elt F)),
    StableHlo.unary main_v149_3 main_while0b_v196 (id : (⟨S_, .i32⟩ : BufTy).Contents (Elt F) → (⟨S_, .i32⟩ : BufTy).Contents (Elt F)),
    StableHlo.unary main_while0b_v196 main_while0b_v197 (broadcastInDim S1000 ![] bcast_S_S1000 : (⟨S_, .i32⟩ : BufTy).Contents (Elt F) → (⟨S1000, .i32⟩ : BufTy).Contents (Elt F)),
    StableHlo.binary main_v149_1 main_while0b_v197 main_while0b_v198 (cmpi .sgt : (⟨S1000, .i32⟩ : BufTy).Contents (Elt F) → (⟨S1000, .i32⟩ : BufTy).Contents (Elt F) → (⟨S1000, .i1⟩ : BufTy).Contents (Elt F)),
    StableHlo.unary main_while0b_v198 main_while0b_v199 (broadcastInDim S1x1000 ![1] bcast_S1000_S1x1000_1 : (⟨S1000, .i1⟩ : BufTy).Contents (Elt F) → (⟨S1x1000, .i1⟩ : BufTy).Contents (Elt F)),
    StableHlo.unary main_while0b_v199 main_while0b_v200 (broadcastInDim S4x1000 ![0, 1] bcast_S1x1000_S4x1000_0_1 : (⟨S1x1000, .i1⟩ : BufTy).Contents (Elt F) → (⟨S4x1000, .i1⟩ : BufTy).Contents (Elt F)),
    StableHlo.binary main_while0b_v195 main_while0b_v200 main_while0b_v201 (andi : (⟨S4x1000, .i1⟩ : BufTy).Contents (Elt F) → (⟨S4x1000, .i1⟩ : BufTy).Contents (Elt F) → (⟨S4x1000, .i1⟩ : BufTy).Contents (Elt F)),
    StableHlo.unary main_while0b_v201 main_while0b_v202 (noti : (⟨S4x1000, .i1⟩ : BufTy).Contents (Elt F) → (⟨S4x1000, .i1⟩ : BufTy).Contents (Elt F)),
    StableHlo.binary main_v149_4 main_while0b_v202 main_while0b_v203 (andi : (⟨S4x1000, .i1⟩ : BufTy).Contents (Elt F) → (⟨S4x1000, .i1⟩ : BufTy).Contents (Elt F) → (⟨S4x1000, .i1⟩ : BufTy).Contents (Elt F)),
    StableHlo.nullary main_while0b_c_45 (constantI S_ 32 1#32),
    StableHlo.binary main_v149_2 main_while0b_c_45 main_while0b_v204 (addi : (⟨S_, .i32⟩ : BufTy).Contents (Elt F) → (⟨S_, .i32⟩ : BufTy).Contents (Elt F) → (⟨S_, .i32⟩ : BufTy).Contents (Elt F)),
    StableHlo.unary main_while0b_v204 main_v149_2 id,
    StableHlo.unary main_while0b_v180 main_v149_3 id,
    StableHlo.unary main_while0b_v203 main_v149_4 id ]

/-- They touch TensorCore buffers only. -/
theorem bodyOps_sub : (bodyOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.unaryIndexed_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub ..⟩

end Cert.RefRun

end
-- ==== Proof.RefRun.lean ====
module

public import proofs.«01_k».proof.Proof.RefOps

@[expose] public section

/-! The reference program's run: every buffer ends at the fold of its operations, the loop's body taken a thousand times. -/

set_option maxRecDepth 16384

noncomputable section

namespace Cert.RefRun

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Cert.ReferenceIdeal Cert.ReferenceIdeal.Gen

variable {F : FTy → Type} [FloatOps F]

/-- The stretches before the loop. -/
def preI : List (List (HloOp τ sig (Elt F))) :=
  [p0_0, p0_1, p0_2, p1_0, p1_1, p1_2, p1_3, p1_4, p1_5, p1_6, p1_7, p1_8, p1_9, p1_10, p2_0, p2_1, p2_2, p2_3, p2_4, p2_5, p2_6, p3_0]

/-- The stretches after the loop. -/
def postI : List (List (HloOp τ sig (Elt F))) := [p3_1, p3_2, p3_3, p3_4]

theorem pre_plain : Plain (preI (F := F)) :=
  .cons p0_0_sub <| .cons p0_1_sub <| .cons p0_2_sub <| .cons p1_0_sub <| .cons p1_1_sub <| .cons p1_2_sub <| .cons p1_3_sub
  <| .cons p1_4_sub <| .cons p1_5_sub <| .cons p1_6_sub <| .cons p1_7_sub <| .cons p1_8_sub <| .cons p1_9_sub <| .cons p1_10_sub
  <| .cons p2_0_sub <| .cons p2_1_sub <| .cons p2_2_sub <| .cons p2_3_sub <| .cons p2_4_sub <| .cons p2_5_sub <| .cons p2_6_sub
  <| .cons p3_0_sub .nil

theorem post_plain : Plain (postI (F := F)) :=
  .cons p3_1_sub <| .cons p3_2_sub <| .cons p3_3_sub <| .cons p3_4_sub .nil

theorem body_plain : Plain [bodyOps (F := F)] := .cons bodyOps_sub .nil

/-- Part 0 of @main is its stretches in order. -/
theorem part0_eq (c : Dev nD) : main_part0 (F := F) c = Pipeline.chainK [seq p0_0, seq p0_1] (seq p0_2) := by
  rewrite [chainK_seq_cons, Pipeline.chainK_cons]
  chain_rfl

/-- Part 1 of @main. -/
theorem part1_eq (c : Dev nD) : main_part1 (F := F) c
    = Pipeline.chainK [seq p1_0, seq p1_1, seq p1_2, seq p1_3, seq p1_4, seq p1_5, seq p1_6, seq p1_7, seq p1_8, seq p1_9] (seq p1_10) := by
  rewrite [chainK_seq_cons, Pipeline.chainK_cons, chainK_seq_cons, Pipeline.chainK_cons, chainK_seq_cons, Pipeline.chainK_cons,
    chainK_seq_cons, Pipeline.chainK_cons, chainK_seq_cons, Pipeline.chainK_cons]
  chain_rfl

/-- Part 2 of @main. -/
theorem part2_eq (c : Dev nD) : main_part2 (F := F) c
    = Pipeline.chainK [seq p2_0, seq p2_1, seq p2_2, seq p2_3, seq p2_4, seq p2_5] (seq p2_6) := by
  rewrite [chainK_seq_cons, Pipeline.chainK_cons, chainK_seq_cons, Pipeline.chainK_cons, chainK_seq_cons, Pipeline.chainK_cons]
  chain_rfl

/-- Part 3 of @main, the loop second. -/
theorem part3_eq (c : Dev nD) : main_part3 (F := F) c
    = Pipeline.chain [seq p3_0, HostLoop.enter 0, seq p3_1, seq p3_2, seq p3_3, seq p3_4] := by
  rewrite [chain_seq_cons, Pipeline.chain_cons, Pipeline.chain_cons, chain_seq_cons, Pipeline.chain_cons, chain_seq_cons]
  chain_rfl

/-- @main is the stretches, the loop, the stretches. -/
theorem main_eq (c : Dev nD) : main (F := F) c
    = Pipeline.chain ((preI.map fun ops => (seq ops : Prog _ PUnit)) ++ HostLoop.enter 0 :: postI.map fun ops => (seq ops : Prog _ PUnit)) := by
  show (main_part0 (F := F) c >>= fun _ => main_part1 (F := F) c >>= fun _ => main_part2 (F := F) c >>= fun _ => main_part3 (F := F) c) = _
  rewrite [part3_eq, part2_eq, Pipeline.chainK_bind_chain, part1_eq, Pipeline.chainK_bind_chain, part0_eq, Pipeline.chainK_bind_chain]
  rfl

/-- The loop's body is its operations. -/
theorem body_eq : main_while0_body (F := F) = Pipeline.chain ([bodyOps].map fun ops => (seq ops : Prog _ PUnit)) := by
  show main_while0_body (F := F) = Pipeline.chain [seq bodyOps]
  rewrite [chain_seq_cons]
  chain_rfl

/-- The trip counter, one trip further. -/
theorem body_ctr (V : Valuation τ sig (Elt F)) : after bodyOps V main_v149_2 = addi (s := S_) (V main_v149_2) (constantI S_ 32 1#32) := by
  unfold bodyOps
  after_results
  rfl

theorem cond_ctr (V : Valuation τ sig (Elt F)) : after condOps V main_v149_2 = V main_v149_2 := by
  unfold condOps
  after_results

theorem entry_ctr (V : Valuation τ sig (Elt F)) : afterL preI V main_v149_2 = constantI S_ 32 0#32 := by
  unfold preI
  simp only [afterL_cons, afterL_nil]
  unfold p3_0 p2_6
  after_results
  rfl

/-- Before the `k`-th run of the condition the counter is `k`. -/
theorem trip_ctr (m : (ℓ : Loc nD τ sig) → Buf (Elt F) ℓ) (c : Dev nD) : ∀ k,
    atTrip condOps [bodyOps] (entryContents preI m) k c main_v149_2 = fun _ => (BitVec.ofNat 32 k : BitVec 32)
  | 0 => entry_ctr _
  | k + 1 => by
    rw [atTrip_succ, afterL_cons, afterL_nil, body_ctr, cond_ctr, trip_ctr m c k]
    funext i
    show BitVec.ofNat 32 k + 1#32 = BitVec.ofNat 32 (k + 1)
    rw [BitVec.ofNat_add]

/-- The condition holds exactly on the first thousand runs. -/
theorem slt_iff (k : ℕ) (hk : k ≤ 1000) : IntOp.cmpi .slt (BitVec.ofNat 32 k) 1000#32 = 1#1 ↔ k < 1000 := by
  have h : ∀ j : Fin 1001, IntOp.cmpi .slt (BitVec.ofNat 32 j.val) 1000#32 = 1#1 ↔ j.val < 1000 := by decide +kernel
  exact h ⟨k, by omega⟩

set_option backward.isDefEq.respectTransparency.types false in
/-- What the condition returns before each trip. -/
theorem cond_spec (m : (ℓ : Loc nD τ sig) → Buf (Elt F) ℓ) :
    CondSpec (pcfgs (F := F)) defs₀ loops main_while0_cond condOps [bodyOps] (entryContents preI m) 1000 := by
  intro k hk c bd
  have hctr := trip_ctr m c k
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps [bodyOps] (entryContents preI m) k c) main_v149_2 HostLoop.idx0)
        (HloOp.result _ (atTrip condOps [bodyOps] (entryContents preI m) k c) main_while0c_c_36 HostLoop.idx0) = 1#1) (k < 1000)
    rw [nullary_result_ne _ _ _ _ (by decide), nullary_result, hctr]
    exact slt_iff k hk
  isplitl [Hb]; · iexact Hb
  unfold condOps; rw [after_cons, after_cons, after_nil]; iexact Hh

/-- Every buffer at the end. -/
abbrev fin (m : (ℓ : Loc nD τ sig) → Buf (Elt F) ℓ) (c : Dev nD) : Valuation τ sig (Elt F) :=
  finalContents condOps preI [bodyOps] postI 1000 m c

/-- The run. -/
theorem run (m : (ℓ : Loc nD τ sig) → Buf (Elt F) ℓ) (ρ : Dev nD → PrngReg) :
    θ_run defs (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = fin m c (Proc.devRef .tc b)) :=
  run_loop pcfgs defs₀ loops main 0 main_while0_cond main_while0_body rfl preI [bodyOps] postI condOps
    pre_plain body_plain post_plain main_eq body_eq 1000 m ρ (cond_spec m)

/-- No stretch before the loop writes an argument. -/
theorem pre_args (V : Valuation τ sig (Elt F)) : afterL preI V main_arg0 = V main_arg0 ∧ afterL preI V main_arg1 = V main_arg1 := by
  unfold preI
  simp only [afterL_cons, afterL_nil]
  unfold p0_0 p0_1 p0_2 p1_0 p1_1 p1_2 p1_3 p1_4 p1_5 p1_6 p1_7 p1_8 p1_9 p1_10 p2_0 p2_1 p2_2 p2_3 p2_4 p2_5 p2_6 p3_0
  constructor <;> after_results

/-- Nor does one after it. -/
theorem post_args (V : Valuation τ sig (Elt F)) : afterL postI V main_arg0 = V main_arg0 ∧ afterL postI V main_arg1 = V main_arg1 := by
  unfold postI
  simp only [afterL_cons, afterL_nil]
  unfold p3_1 p3_2 p3_3 p3_4
  constructor <;> after_results

/-- Nor a trip. -/
theorem trip_args (V : Valuation τ sig (Elt F)) :
    after bodyOps (after condOps V) main_arg0 = V main_arg0 ∧ after bodyOps (after condOps V) main_arg1 = V main_arg1 := by
  unfold bodyOps condOps
  constructor <;> after_results

/-- Nor any number of trips. -/
theorem trips_args (W : Dev nD → Valuation τ sig (Elt F)) (c : Dev nD) : ∀ k,
    atTrip condOps [bodyOps] W k c main_arg0 = W c main_arg0 ∧ atTrip condOps [bodyOps] W k c main_arg1 = W c main_arg1
  | 0 => ⟨rfl, rfl⟩
  | k + 1 => by
    obtain ⟨h0, h1⟩ := trips_args W c k
    rw [atTrip_succ, afterL_cons, afterL_nil, (trip_args _).1, (trip_args _).2]
    exact ⟨h0, h1⟩

theorem cond_args (V : Valuation τ sig (Elt F)) : after condOps V main_arg0 = V main_arg0 ∧ after condOps V main_arg1 = V main_arg1 := by
  unfold condOps
  constructor <;> after_results

/-- The arguments at the end are the arguments at the start. -/
theorem fin_args (m : (ℓ : Loc nD τ sig) → Buf (Elt F) ℓ) (c : Dev nD) :
    fin m c main_arg0 = m ((c.tc : Thread nD τ).loc main_arg0) ∧ fin m c main_arg1 = m ((c.tc : Thread nD τ).loc main_arg1) := by
  constructor
  · exact (post_args _).1.trans ((cond_args _).1.trans ((trips_args _ c 1000).1.trans (pre_args _).1))
  · exact (post_args _).2.trans ((cond_args _).2.trans ((trips_args _ c 1000).2.trans (pre_args _).2))

/-- The reference leaves its arguments and its counters as they were: the frame claim. -/
theorem frame (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun r h => ⟨fun c => ⟨(h c main_arg0 rfl).trans (fin_args m c).1, (h c main_arg1 rfl).trans (fin_args m c).2⟩,
    sem_eq_zero_of_no_sems (by decide) r.2⟩) (run m ρ)

end Cert.RefRun

end
-- ==== Proof.K0Tree.lean ====
module

public import proofs.«01_k».proof.Proof.Gen.KernelIdeal.Frame

/-! # The preparation kernel as operation trees

For each of the eight anchors the first launch decodes one row of boxes: four clipped corners, the best class and its
score. This module names those six rows as functions of the vectors loaded, and says that the launch's pieces are these
functions applied to the loads. -/

@[expose] public section

set_option maxRecDepth 16384

noncomputable section

namespace Cert.K0

open Idealize.ShloMosaic Idealize.ShloMosaic.TcCoe Idealize.ShloMosaic.Tactic
open Cert.KernelIdeal Cert.KernelIdeal.Gen

variable {F : FTy → Type} [FloatOps F]

/-- Every anchor's scores lie inside the block. -/
theorem inbS : ∀ (a : Fin 8) (k : Fin 3), (![0, 84 * a.val + 4, 0] : Fin 3 → ℕ) k + S1x80x2500.size k ≤ S1x672x2500.size k := by decide
/-- Every anchor's deltas lie inside the block. -/
theorem inbD : ∀ (a : Fin 8) (c : Fin 4) (k : Fin 3), (![0, 84 * a.val + c.val, 0] : Fin 3 → ℕ) k + S1x1x2500.size k ≤ S1x672x2500.size k := by
  decide
/-- Every anchor's corners lie inside the block. -/
theorem inbA : ∀ (a : Fin 8) (c : Fin 4) (k : Fin 3), (![0, 4 * a.val + c.val, 0] : Fin 3 → ℕ) k + S1x1x2500.size k ≤ S1x32x2500.size k := by
  decide
/-- Every row of the result lies inside it. -/
theorem inbW : ∀ (a : Fin 8) (c : Fin 6) (k : Fin 3), (![0, 8 * c.val + a.val, 0] : Fin 3 → ℕ) k + S1x1x2500.size k ≤ S1x48x2500.size k := by
  decide

/-- An anchor's scores. -/
abbrev ldS (x0 : Vec F S1x672x2500 .f32) (a : Fin 8) : Vec F S1x80x2500 .f32 :=
  View.ld x0 (Rect.unit (s := S1x672x2500) ![0, 84 * a.val + 4, 0] S1x80x2500.size (inbS a))
/-- An anchor's delta. -/
abbrev ldD (x0 : Vec F S1x672x2500 .f32) (a : Fin 8) (c : Fin 4) : Vec F S1x1x2500 .f32 :=
  View.ld x0 (Rect.unit (s := S1x672x2500) ![0, 84 * a.val + c.val, 0] S1x1x2500.size (inbD a c))
/-- An anchor's corner coordinate. -/
abbrev ldA (x1 : Vec F S1x32x2500 .f32) (a : Fin 8) (c : Fin 4) : Vec F S1x1x2500 .f32 :=
  View.ld x1 (Rect.unit (s := S1x32x2500) ![0, 4 * a.val + c.val, 0] S1x1x2500.size (inbA a c))

/-- A loaded row as a matrix of one row. -/
abbrev flat (r : Vec F S1x1x2500 .f32) : FVec F S1x2500 .f32 := shapeCast S1x2500 r shapeCasts_S1x1x2500_S1x2500
/-- One number in every place of a row. -/
abbrev every (w : BitVec 32) : FVec F S1x2500 .f32 := broadcast S1x2500 (Scalar.ofBits .f32 w)
/-- The anchor's side. -/
abbrev side (p q : Vec F S1x1x2500 .f32) : FVec F S1x2500 .f32 := subf (flat q) (flat p)
/-- The decoded centre. -/
abbrev centre (d p q : Vec F S1x1x2500 .f32) : FVec F S1x2500 .f32 :=
  addf (mulf (flat d) (side p q)) (addf (flat p) (mulf (every 0x3F000000#32) (side p q)))
/-- Half the decoded side. -/
abbrev half (l p q : Vec F S1x1x2500 .f32) : FVec F S1x2500 .f32 :=
  mulf (every 0x3F000000#32) (mulf (exp (minimumf (flat l) (every 0x40845349#32))) (side p q))
/-- A coordinate brought into the picture and stored. -/
abbrev clip (v : FVec F S1x2500 .f32) : FVec F S1x1x2500 .f32 :=
  shapeCast S1x1x2500 (minimumf (every 0x44480000#32) (maximumf (every 0x00000000#32) v)) shapeCasts_S1x2500_S1x1x2500
/-- The scores as a matrix. -/
abbrev mat (s : Vec F S1x80x2500 .f32) : FVec F S80x2500 .f32 := shapeCast S80x2500 s shapeCasts_S1x80x2500_S80x2500
/-- The best score. -/
abbrev best (s : Vec F S1x80x2500 .f32) : FVec F S1x2500 .f32 :=
  shapeCast S1x2500 (multiReduction .maximumf [0] S2500 (mat s) 0xFF800000#32 reduces_S80x2500_S2500 (.inl rfl) rfl) shapeCasts_S2500_S1x2500
/-- The first class that reaches the best score, as a word. -/
abbrev bestAt (s : Vec F S1x80x2500 .f32) : IVec S1x2500 32 :=
  shapeCast S1x2500 (multiReductionI .minsi [0] S2500
    (select (cmpf .oeq (mat s) (broadcastTo S80x2500 (best s) broadcasts_S1x2500_S80x2500))
      (iota .tc S80x2500 32 [0] iota_S80x2500_d0_w32) (broadcast S80x2500 1073741824#32))
    2147483647#32 reduces_S80x2500_S2500 rfl) shapeCasts_S2500_S1x2500

/-- The six rows of an anchor. -/
def row (s : Vec F S1x80x2500 .f32) (d p : Fin 4 → Vec F S1x1x2500 .f32) : Fin 6 → FVec F S1x1x2500 .f32 :=
  ![clip (subf (centre (d 0) (p 0) (p 2)) (half (d 2) (p 0) (p 2))),
    clip (subf (centre (d 1) (p 1) (p 3)) (half (d 3) (p 1) (p 3))),
    clip (addf (centre (d 0) (p 0) (p 2)) (half (d 2) (p 0) (p 2))),
    clip (addf (centre (d 1) (p 1) (p 3)) (half (d 3) (p 1) (p 3))),
    shapeCast S1x1x2500 (sitofp .f32 (bestAt s)) shapeCasts_S1x2500_S1x1x2500,
    shapeCast S1x1x2500 (best s) shapeCasts_S1x2500_S1x1x2500]

/-- The piece a row is stored as. -/
def piece (x0 : Vec F S1x672x2500 .f32) (x1 : Vec F S1x32x2500 .f32) (p : Fin 8 × Fin 6) : View.Piece (Elt F) S1x48x2500 .f32 :=
  ⟨Rect.unit ![0, 8 * p.2.val + p.1.val, 0] S1x1x2500.size (inbW p.1 p.2), row (ldS x0 p.1) (ldD x0 p.1) (ldA x1 p.1) p.2⟩

/-- The rows in the order they were stored, the last first. -/
def rowIds : List (Fin 8 × Fin 6) :=
  [7, 6, 5, 4, 3, 2, 1, 0].flatMap fun a => [5, 4, 3, 2, 1, 0].map fun c => (a, c)

/-- What the stores amount to. -/
theorem out_eq (x0 : Vec F S1x672x2500 .f32) (x1 : Vec F S1x32x2500 .f32) :
    out0_2 x0 x1 = View.canon (rowIds.map (piece x0 x1)) := by
  sl_kernel_rfl

end Cert.K0

end

end
-- ==== Proof.Spec.lean ====
module

public import Idealize.ShloMosaic.PureOps.Ideal
public import Mathlib.Order.Interval.Finset.Nat
public import Mathlib.Data.Nat.Count

/-! # Greedy suppression over a list of boxes

A table gives each place six numbers: two corners, a class and a score. The overlap of two boxes is their common area
over their joint area. A place starts out kept when its score is good and its sides are positive; in round `k` the place
`k`, if still kept, drops the later places that overlap it by more than a half. The result lists the kept places in
order. -/

@[expose] public section

noncomputable section

namespace Cert.Spec

open Idealize.ShloMosaic
open scoped Classical

/-- Two corners, a class, a score. -/
abbrev Box := Fin 6 → EReal

/-- The area of a box. -/
def area (u : Box) : EReal := (u 2 - u 0) * (u 3 - u 1)
/-- The common area of two boxes. -/
def inter (u v : Box) : EReal := max (min (u 2) (v 2) - max (u 0) (v 0)) 0 * max (min (u 3) (v 3) - max (u 1) (v 1)) 0
/-- The joint area of two boxes. -/
def union (u v : Box) : EReal := area u + area v - inter u v
/-- The overlap of two boxes. -/
def iou (u v : Box) : EReal := if 0 < union u v then Ideal.div (inter u v) (union u v) else 0
/-- A good score and positive sides. -/
def good (u : Box) : Prop := (Ideal.ofBits .f32 0x3D4CCCCD#32 ≤ u 5 ∧ u 0 < u 2) ∧ u 1 < u 3
/-- Two boxes overlap by more than a half. -/
def close (u v : Box) : Prop := Ideal.ofBits .f32 0x3F000000#32 < iou u v

/-- The places kept before round `k`. -/
def keep (T : ℕ → Box) : ℕ → ℕ → Prop
  | 0, j => good (T j)
  | k + 1, j => keep T k j ∧ ¬ ((close (T k) (T j) ∧ k < j) ∧ keep T k k)

theorem keep_zero (T : ℕ → Box) (j : ℕ) : keep T 0 j ↔ good (T j) := Iff.rfl
theorem keep_succ (T : ℕ → Box) (k j : ℕ) :
    keep T (k + 1) j ↔ keep T k j ∧ ¬ ((close (T k) (T j) ∧ k < j) ∧ keep T k k) := Iff.rfl

/-- Row `p` of the result, the places below `n` kept by `P`: the kept place with `p` kept places before it. -/
def out (T : ℕ → Box) (P : ℕ → Prop) (n p : ℕ) (c : Fin 6) : EReal :=
  ∑ i ∈ Finset.range n, if P i ∧ Nat.count P (i + 1) = p + 1 then T i c else 0

/-- A zero box is never good. -/
theorem not_good_zero {u : Box} (h : ∀ c, u c = 0) : ¬ good u := by
  rintro ⟨⟨-, h1⟩, -⟩
  rw [h, h] at h1
  exact lt_irrefl _ h1

/-- A place kept at any time was kept at the start. -/
theorem good_of_keep {T : ℕ → Box} : ∀ {k j : ℕ}, keep T k j → good (T j)
  | 0, _, h => h
  | _ + 1, _, h => good_of_keep h.1

/-- The places that hold the zero box add nothing to the result. -/
theorem out_of_zero {T : ℕ → Box} {k n m p : ℕ} {c : Fin 6} (hnm : n ≤ m) (hz : ∀ i, n ≤ i → ∀ c, T i c = 0) :
    out T (keep T k) m p c = out T (keep T k) n p c := by
  unfold out
  refine (Finset.sum_subset (Finset.range_subset_range.2 hnm) fun i _ hi => ?_).symm
  rw [if_neg]
  rintro ⟨h, -⟩
  exact not_good_zero (hz i (by simpa using hi)) (good_of_keep h)

/-- Only the places below `n` matter. -/
theorem keep_congr {T T' : ℕ → Box} {n : ℕ} (h : ∀ i, i < n → T i = T' i) :
    ∀ {k j : ℕ}, k ≤ n → j < n → (keep T k j ↔ keep T' k j)
  | 0, j, _, hj => by rw [keep_zero, keep_zero, h j hj]
  | k + 1, j, hk, hj => by
    rw [keep_succ, keep_succ, keep_congr h (by omega) hj, keep_congr h (by omega) (by omega : k < n), h j hj, h k (by omega)]

end Cert.Spec

end

end
-- ==== Proof.Words.lean ====
module

public import Idealize.ShloMosaic.Lib.Pointwise
public import Idealize.ShloMosaic.PureOps.Ideal
public import Idealize.ShloMosaic.Lib.WordArith.Masks
public import Mathlib.Data.Nat.Count

/-! # Bits, small counters and their numbers

A one-bit word is read as a proposition; its number is one or zero; a small count survives the way to the reals and
back. -/

@[expose] public section

noncomputable section

namespace Cert.Words

open Idealize.ShloMosaic
open scoped Classical

/-- A decided proposition's bit is set exactly when it holds. -/
theorem bit_iff (p : Prop) (d : Decidable p) : BitVec.ofBool (@decide p d) = 1#1 ↔ p := by
  by_cases h : p <;> simp [h]

/-- The number of a bit. -/
theorem num_bit (b : BitVec 1) : (FloatOps.sitofp FTy.f32 (BitVec.setWidth 32 b) : Ideal .f32) = if b = 1#1 then (1 : EReal) else 0 := by
  show (((BitVec.setWidth 32 b).toInt : ℝ) : EReal) = _
  rcases (by decide : ∀ b : BitVec 1, b = 0#1 ∨ b = 1#1) b with h | h <;> subst h
  · rw [if_neg (by decide), show (BitVec.setWidth 32 0#1).toInt = 0 from by decide]; simp
  · rw [if_pos rfl, show (BitVec.setWidth 32 1#1).toInt = 1 from by decide]; simp

/-- The number of a bit without its sign. -/
theorem unum_bit (b : BitVec 1) : (FloatOps.uitofp FTy.f32 b : Ideal .f32) = if b = 1#1 then (1 : EReal) else 0 := by
  show ((b.toNat : ℝ) : EReal) = _
  rcases (by decide : ∀ b : BitVec 1, b = 0#1 ∨ b = 1#1) b with h | h <;> subst h
  · rw [if_neg (by decide)]; simp
  · rw [if_pos rfl]; simp

/-- Both bits are set. -/
theorem and_iff (a b : BitVec 1) : IntOp.andi a b = 1#1 ↔ a = 1#1 ∧ b = 1#1 := by
  revert a b; decide

/-- The bit of an equation between words. -/
theorem eq_iff {w : ℕ} (a b : BitVec w) : IntOp.cmpi CmpIPredicate.eq a b = 1#1 ↔ a = b := by
  show BitVec.ofBool (a == b) = 1#1 ↔ a = b
  by_cases h : a = b
  · subst h; simp
  · rw [beq_eq_false_iff_ne.2 h]; simp [h]

/-- Two small words agree when their numbers do. -/
theorem ofNat_inj {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

/-- The signed number of a small word. -/
theorem toInt_ofNat {a : ℕ} (ha : a < 2 ^ 31) : (BitVec.ofNat 32 a).toInt = (a : ℤ) := by
  rw [BitVec.toInt_eq_toNat_cond, BitVec.toNat_ofNat, Nat.mod_eq_of_lt (by omega), if_pos (by omega)]

/-- The bit of "below" between small words. -/
theorem slt_bit {a b : ℕ} (ha : a < 2 ^ 31) (hb : b < 2 ^ 31) :
    IntOp.cmpi CmpIPredicate.slt (BitVec.ofNat 32 a) (BitVec.ofNat 32 b) = 1#1 ↔ a < b := by
  show BitVec.ofBool (BitVec.slt _ _) = 1#1 ↔ _
  rw [BitVec.slt, toInt_ofNat ha, toInt_ofNat hb, bit_iff]
  omega

/-- The bit of "above" between small words. -/
theorem sgt_bit {a b : ℕ} (ha : a < 2 ^ 31) (hb : b < 2 ^ 31) :
    IntOp.cmpi CmpIPredicate.sgt (BitVec.ofNat 32 a) (BitVec.ofNat 32 b) = 1#1 ↔ b < a := by
  show BitVec.ofBool (BitVec.slt _ _) = 1#1 ↔ _
  rw [BitVec.slt, toInt_ofNat ha, toInt_ofNat hb, bit_iff]
  omega

/-- The bit of "at most" between small words. -/
theorem sle_bit {a b : ℕ} (ha : a < 2 ^ 31) (hb : b < 2 ^ 31) :
    IntOp.cmpi CmpIPredicate.sle (BitVec.ofNat 32 a) (BitVec.ofNat 32 b) = 1#1 ↔ a ≤ b := by
  show BitVec.ofBool (BitVec.sle _ _) = 1#1 ↔ _
  rw [BitVec.sle, toInt_ofNat ha, toInt_ofNat hb, bit_iff]
  omega

/-- The loop's index word. -/
theorem iv_eq (k : ℕ) : Scf.iv 0#32 1#32 k = BitVec.ofNat 32 k := by
  simp [Scf.iv]

/-- A small count's word. -/
theorem fptosi_nat {n : ℕ} (h : n < 2 ^ 31) : (FloatOps.fptosi 32 ((n : ℕ) : Ideal .f32) : BitVec 32) = BitVec.ofNat 32 n := by
  show Ideal.fptosi 32 ((n : ℕ) : EReal) = _
  rw [Ideal.fptosi, show ((n : ℕ) : EReal) = (((n : ℕ) : ℝ) : EReal) from rfl, Ideal.toIntClamped_coe, if_pos (Nat.cast_nonneg n),
    Int.floor_natCast, show max (-((2 ^ (32 - 1) : ℕ) : ℤ)) (min (((2 ^ (32 - 1) : ℕ) : ℤ) - 1) (n : ℤ)) = (n : ℤ) from by omega]
  exact BitVec.ofInt_natCast ..

/-- A selection by a bit. -/
theorem select_eq {α : Type} (b : BitVec 1) (x y : α) : Scalar.select b x y = if b = 1#1 then x else y := by
  rcases (by decide : ∀ b : BitVec 1, b = 0#1 ∨ b = 1#1) b with h | h <;> subst h <;> rfl

/-- The places up to `x` that satisfy `P`, counted as a sum of products. -/
theorem sum_count {n : ℕ} (P : ℕ → Prop) (x : ℕ) (hx : x < n) :
    (∑ i : Fin n, (if P i then (1 : EReal) else 0) * (if i.val ≤ x then (1 : EReal) else 0)) = ((Nat.count P (x + 1) : ℕ) : EReal) := by
  rw [Fin.sum_univ_eq_sum_range (fun i => (if P i then (1 : EReal) else 0) * (if i ≤ x then (1 : EReal) else 0)) n,
    Nat.count_eq_card_filter_range, ← Finset.sum_subset (Finset.range_subset_range.2 (by omega : x + 1 ≤ n))]
  · rw [Finset.card_filter, Nat.cast_sum]
    refine Finset.sum_congr rfl fun i hi => ?_
    rw [if_pos (by simpa [Nat.lt_succ_iff] using hi : i ≤ x), mul_one]
    split <;> simp
  · intro i _ hi
    rw [if_neg (by simpa [Nat.lt_succ_iff] using hi : ¬ i ≤ x), mul_zero]

end Cert.Words

end

end
-- ==== Proof.Best.lean ====
module

public import proofs.«01_k».proof.Proof.Spec
public import proofs.«01_k».proof.Proof.Words
public import proofs.«01_k».proof.ReferenceIdeal

/-! # The first class of the best score

The decoded box that both programs hold: its corners, its class and its score, as functions of one anchor's numbers.
The class is the first place that reaches the greatest score. The launch finds it by a least place among the places that
reach it, the reference by folding pairs; both are shown here to be the same number. -/

@[expose] public section

set_option maxRecDepth 16384

noncomputable section

namespace Cert.Spec

open Idealize.ShloMosaic

/-- The greatest score. -/
def top (s : Fin 80 → EReal) : EReal := Finset.univ.fold max (Ideal.ofBits .f32 0xFF800000#32) s

/-- The number of the first place that reaches the greatest score. -/
def cls (s : Fin 80 → EReal) : ℕ := sInf {n | ∃ h : n < 80, s ⟨n, h⟩ = top s}

/-- The centre of a decoded side. -/
def mid (d p q : EReal) : EReal := d * (q - p) + (p + Ideal.ofBits .f32 0x3F000000#32 * (q - p))

/-- Half the length of a decoded side. -/
def reach (l p q : EReal) : EReal :=
  Ideal.ofBits .f32 0x3F000000#32 * (Ideal.exp (min l (Ideal.ofBits .f32 0x40845349#32)) * (q - p))

/-- A coordinate brought into the picture. -/
def bound (x : EReal) : EReal := min (Ideal.ofBits .f32 0x44480000#32) (max 0 x)

/-- The decoded box of one anchor at one place. -/
def decode (s : Fin 80 → EReal) (d p : Fin 4 → EReal) : Box :=
  ![bound (mid (d 0) (p 0) (p 2) - reach (d 2) (p 0) (p 2)), bound (mid (d 1) (p 1) (p 3) - reach (d 3) (p 1) (p 3)),
    bound (mid (d 0) (p 0) (p 2) + reach (d 2) (p 0) (p 2)), bound (mid (d 1) (p 1) (p 3) + reach (d 3) (p 1) (p 3)),
    FloatOps.sitofp (F := Ideal) .f32 (BitVec.ofNat 32 (cls s)), top s]

theorem floor_eq : Ideal.ofBits .f32 0xFF800000#32 = ⊥ := by
  simp [Ideal.ofBits, Ideal.ieee]

theorem le_top (s : Fin 80 → EReal) (c : Fin 80) : s c ≤ top s :=
  (Finset.le_fold_max (s c)).2 (Or.inr ⟨c, Finset.mem_univ _, le_rfl⟩)

/-- A bound that is reached is the greatest score. -/
theorem top_unique (s : Fin 80 → EReal) (c : Fin 80) (h : ∀ b, s b ≤ s c) : top s = s c := by
  refine le_antisymm ?_ (le_top s c)
  rw [top, floor_eq]
  exact (Finset.fold_max_le (s c)).2 ⟨bot_le, fun b _ => h b⟩

theorem exists_top (s : Fin 80 → EReal) : ∃ c, s c = top s := by
  obtain ⟨c, hc⟩ := Finite.exists_max s
  exact ⟨c, (top_unique s c hc).symm⟩

theorem cls_le (s : Fin 80 → EReal) (c : Fin 80) (h : s c = top s) : cls s ≤ c.val := Nat.sInf_le ⟨c.isLt, h⟩

theorem cls_mem (s : Fin 80 → EReal) : ∃ h : cls s < 80, s ⟨cls s, h⟩ = top s := by
  obtain ⟨c, hc⟩ := exists_top s
  exact Nat.sInf_mem (s := {n | ∃ h : n < 80, s ⟨n, h⟩ = top s}) ⟨c.val, c.isLt, hc⟩

theorem cls_unique (s : Fin 80 → EReal) (c : Fin 80) (h : s c = top s) (hl : ∀ b : Fin 80, s b = top s → c.val ≤ b.val) :
    cls s = c.val := by
  obtain ⟨hk, hs⟩ := cls_mem s
  exact le_antisymm (cls_le s c h) (hl _ hs)

/-! ## By a least place -/

/-- The lesser of two small words is the word of the lesser number. -/
theorem minsi_ofNat (m n : ℕ) (hm : m < 2 ^ 31) (hn : n < 2 ^ 31) :
    IntOp.minsi (BitVec.ofNat 32 m) (BitVec.ofNat 32 n) = BitVec.ofNat 32 (min m n) := by
  have h1 : (BitVec.ofNat 32 m).toInt = m := Words.toInt_ofNat hm
  have h2 : (BitVec.ofNat 32 n).toInt = n := Words.toInt_ofNat hn
  unfold IntOp.minsi
  simp only [BitVec.slt, BitVec.sle, h1, h2, decide_eq_true_eq]
  split_ifs with h <;> congr 1 <;> omega

/-- A fold of lesser words is the word of the least number. -/
theorem fold_minsi {ι : Type} [DecidableEq ι] (S : Finset ι) (f : ι → ℕ) (hf : ∀ i, f i < 2 ^ 31) (b : ℕ) (hb : b < 2 ^ 31) :
    S.fold IntOp.minsi (BitVec.ofNat 32 b) (fun i => BitVec.ofNat 32 (f i)) = BitVec.ofNat 32 (S.fold min b f) ∧ S.fold min b f < 2 ^ 31 := by
  induction S using Finset.induction_on with
  | empty => exact ⟨rfl, hb⟩
  | insert a S ha ih =>
    rw [Finset.fold_insert ha, Finset.fold_insert ha, ih.1]
    exact ⟨minsi_ofNat _ _ (hf a) ih.2, lt_of_le_of_lt (min_le_left _ _) (hf a)⟩

/-- The least place that reaches the greatest score is the class. -/
theorem least_eq (s : Fin 80 → EReal) :
    Finset.univ.fold IntOp.minsi 2147483647#32 (fun x : Fin 80 => if s x = top s then BitVec.ofNat 32 x.val else 1073741824#32)
      = BitVec.ofNat 32 (cls s) := by
  have hf : (fun x : Fin 80 => if s x = top s then BitVec.ofNat 32 x.val else 1073741824#32)
      = fun x : Fin 80 => BitVec.ofNat 32 (if s x = top s then x.val else 1073741824) := by
    funext x; split_ifs <;> rfl
  rw [hf, (fold_minsi Finset.univ _ (fun x => by have := x.isLt; split_ifs <;> omega) 2147483647 (by norm_num)).1]
  congr 1
  obtain ⟨hk, hs⟩ := cls_mem s
  refine le_antisymm ((Finset.fold_min_le _).2 (Or.inr ⟨⟨cls s, hk⟩, Finset.mem_univ _, by rw [if_pos hs]⟩))
    ((Finset.le_fold_min _).2 ⟨by omega, fun x _ => ?_⟩)
  split_ifs with h
  · exact cls_le s x h
  · omega

/-! ## By a fold of pairs -/

open Cert.ReferenceIdeal in
/-- One step keeps the greater value, and of two places with the same value the lesser. -/
theorem step_or (a b : EReal × BitVec 32) :
    let r := reducer_argmax_f32_i32 (F := Ideal) a b
    (r = a ∨ r = b) ∧ (a.1 ≤ r.1 ∧ (a.1 = r.1 → r.2.toInt ≤ a.2.toInt)) ∧ (b.1 ≤ r.1 ∧ (b.1 = r.1 → r.2.toInt ≤ b.2.toInt)) := by
  obtain ⟨x, i⟩ := a
  obtain ⟨y, j⟩ := b
  have e : reducer_argmax_f32_i32 (F := Ideal) (x, i) (y, j)
      = (if y < x then x else y, if y < x ∨ (x = y ∧ i.toInt < j.toInt) then i else j) := by
    have hs : IntOp.cmpi .slt i j = BitVec.ofBool (decide (i.toInt < j.toInt)) := rfl
    have hg : FloatOps.cmpf (F := Ideal) (φ := .f32) .ogt x y = BitVec.ofBool (decide (y < x)) := rfl
    have hn : FloatOps.cmpf (F := Ideal) (φ := .f32) .une x x = 0#1 := by
      have h : FloatOps.cmpf (F := Ideal) (φ := .f32) .une x x = BitVec.ofBool (decide (x ≠ x)) := rfl
      rw [h]; simp
    have he : FloatOps.cmpf (F := Ideal) (φ := .f32) .oeq x y = BitVec.ofBool (decide (x = y)) := rfl
    simp only [reducer_argmax_f32_i32, hs, hg, hn, he]
    by_cases h1 : y < x <;> by_cases h2 : x = y <;> by_cases h3 : i.toInt < j.toInt <;>
      simp [h1, h2, h3, Scalar.select, IntOp.ori, IntOp.andi]
  intro r
  have hr : r = _ := e
  rcases lt_trichotomy y x with h | h | h
  · rw [if_pos h, if_pos (Or.inl h)] at hr
    rw [hr]
    exact ⟨Or.inl rfl, ⟨le_rfl, fun _ => le_rfl⟩, h.le, fun h' => absurd h' h.ne⟩
  · subst h
    rw [if_neg (lt_irrefl y)] at hr
    by_cases h3 : i.toInt < j.toInt
    · rw [if_pos (Or.inr ⟨rfl, h3⟩)] at hr
      rw [hr]
      exact ⟨Or.inl rfl, ⟨le_rfl, fun _ => le_rfl⟩, le_rfl, fun _ => h3.le⟩
    · rw [if_neg (fun h' => h'.elim (lt_irrefl y) fun h' => h3 h'.2)] at hr
      rw [hr]
      exact ⟨Or.inr rfl, ⟨le_rfl, fun _ => not_lt.1 h3⟩, le_rfl, fun _ => le_rfl⟩
  · rw [if_neg h.not_gt, if_neg (fun h' => h'.elim h.not_gt fun h' => h.ne h'.1)] at hr
    rw [hr]
    exact ⟨Or.inr rfl, ⟨h.le, fun h' => absurd h' h.ne⟩, le_rfl, fun _ => le_rfl⟩

open Cert.ReferenceIdeal in
/-- The fold keeps one of its pairs, of the greatest value, and among those of the least place. -/
theorem fold_or (L : List (EReal × BitVec 32)) : ∀ z : EReal × BitVec 32,
    let r := L.foldl (reducer_argmax_f32_i32 (F := Ideal)) z
    (r = z ∨ r ∈ L) ∧ ∀ p ∈ z :: L, p.1 ≤ r.1 ∧ (p.1 = r.1 → r.2.toInt ≤ p.2.toInt) := by
  induction L with
  | nil =>
    intro z
    refine ⟨Or.inl rfl, fun p hp => ?_⟩
    rw [List.mem_singleton.1 hp]
    exact ⟨le_rfl, fun _ => le_rfl⟩
  | cons b L ih =>
    intro z
    obtain ⟨s1, s2, s3⟩ := step_or z b
    obtain ⟨i1, i2⟩ := ih (reducer_argmax_f32_i32 (F := Ideal) z b)
    have trans : ∀ p : EReal × BitVec 32, p.1 ≤ (reducer_argmax_f32_i32 (F := Ideal) z b).1 →
        (p.1 = (reducer_argmax_f32_i32 (F := Ideal) z b).1 → (reducer_argmax_f32_i32 (F := Ideal) z b).2.toInt ≤ p.2.toInt) →
        p.1 ≤ ((b :: L).foldl (reducer_argmax_f32_i32 (F := Ideal)) z).1 ∧
          (p.1 = ((b :: L).foldl (reducer_argmax_f32_i32 (F := Ideal)) z).1 →
            ((b :: L).foldl (reducer_argmax_f32_i32 (F := Ideal)) z).2.toInt ≤ p.2.toInt) := by
      intro p h1 h2
      have h3 := i2 _ List.mem_cons_self
      refine ⟨h1.trans h3.1, fun h => ?_⟩
      have h4 : p.1 = (reducer_argmax_f32_i32 (F := Ideal) z b).1 := le_antisymm h1 (h3.1.trans h.ge)
      exact (h3.2 (h4.symm.trans h)).trans (h2 h4)
    refine ⟨?_, fun p hp => ?_⟩
    · rcases i1 with h | h
      · rcases s1 with h' | h'
        · exact Or.inl (h.trans h')
        · exact Or.inr (List.mem_cons.2 (Or.inl (h.trans h')))
      · exact Or.inr (List.mem_cons_of_mem _ h)
    · rcases List.mem_cons.1 hp with rfl | hp
      · exact trans p s2.1 s2.2
      · rcases List.mem_cons.1 hp with rfl | hp
        · exact trans p s3.1 s3.2
        · exact i2 p (List.mem_cons_of_mem _ hp)

open Cert.ReferenceIdeal in
/-- The fold over a score's places, in any order, ends at the class. -/
theorem fold_pairs (s : Fin 80 → EReal) (L : List (EReal × BitVec 32))
    (hL : ∀ p, p ∈ L ↔ ∃ c : Fin 80, p = (s c, BitVec.ofNat 32 c.val)) :
    (L.foldl (reducer_argmax_f32_i32 (F := Ideal)) (Ideal.ofBits .f32 0xFF800000#32, 0#32)).2 = BitVec.ofNat 32 (cls s) := by
  obtain ⟨h1, h2⟩ := fold_or L (Ideal.ofBits .f32 0xFF800000#32, 0#32)
  generalize L.foldl (reducer_argmax_f32_i32 (F := Ideal)) (Ideal.ofBits .f32 0xFF800000#32, 0#32) = r at h1 h2
  have hi : ∀ c : Fin 80, (BitVec.ofNat 32 c.val).toInt = c.val := fun c => Words.toInt_ofNat (by have := c.isLt; omega)
  have hle : ∀ c : Fin 80, s c ≤ r.1 ∧ (s c = r.1 → r.2.toInt ≤ c.val) := fun c => by
    have := h2 _ (List.mem_cons_of_mem _ ((hL _).2 ⟨c, rfl⟩))
    rwa [hi c] at this
  have key : ∃ c : Fin 80, r = (s c, BitVec.ofNat 32 c.val) := by
    rcases h1 with h | h
    · refine ⟨0, ?_⟩
      have h0 : s 0 = Ideal.ofBits .f32 0xFF800000#32 := by
        have := (hle 0).1
        rw [h, floor_eq] at this
        rw [floor_eq]
        exact le_bot_iff.1 this
      rw [h, h0]; rfl
    · exact (hL r).1 h
  obtain ⟨c, rfl⟩ := key
  have ht : top s = s c := top_unique s c fun b => (hle b).1
  rw [cls_unique s c ht.symm fun b hb => ?_]
  have := (hle b).2 (hb.trans ht)
  rw [hi c] at this
  exact_mod_cast this

end Cert.Spec

end

end
-- ==== Proof.K0Val.lean ====
module

public import proofs.«01_k».proof.Proof.K0Tree
public import proofs.«01_k».proof.Proof.Best
public import Idealize.ShloMosaic.Lib.Pipeline.ValueKit
public import Idealize.ShloMosaic.Lib.Pointwise

/-! # What the preparation kernel leaves

Row `8 * c + a` of a block holds number `c` of anchor `a`'s decoded box, place by place. -/

@[expose] public section

set_option maxRecDepth 16384

noncomputable section

namespace Cert.K0

open Idealize.ShloMosaic Idealize.ShloMosaic.TcCoe Idealize.ShloMosaic.Tactic
open Cert.KernelIdeal Cert.KernelIdeal.Gen
open Cert.Spec
open scoped Classical

/-- One anchor's rows at one place. -/
theorem row_at (s : Vec Ideal S1x80x2500 .f32) (d p : Fin 4 → Vec Ideal S1x1x2500 .f32) (k : Fin 6) (j : Fin 2500) :
    row s d p k (ix3 0 0 j) = decode (fun c => s (ix3 0 c j)) (fun c => d c (ix3 0 0 j)) (fun c => p c (ix3 0 0 j)) k := by
  fin_cases k
  all_goals dsimp only [row, decode, bound, mid, reach, Matrix.cons_val, Fin.zero_eta, Fin.mk_one, Fin.reduceFinMk]
  · pointwise
  · pointwise
  · pointwise
  · pointwise
  · pointwise
    rw [← least_eq]
    rfl
  · pointwise
    rfl

/-- A score, as loaded. -/
theorem ldS_at (x0 : Vec Ideal S1x672x2500 .f32) (a : Fin 8) (c : Fin 80) (j : Fin 2500) :
    ldS x0 a (ix3 0 c j) = x0 (ix3 0 ⟨84 * a.val + 4 + c.val, by omega⟩ j) := by
  refine congrArg x0 (funext fun b => Fin.ext ?_)
  fin_cases b <;> simp [ix3]

/-- A delta, as loaded. -/
theorem ldD_at (x0 : Vec Ideal S1x672x2500 .f32) (a : Fin 8) (c : Fin 4) (j : Fin 2500) :
    ldD x0 a c (ix3 0 0 j) = x0 (ix3 0 ⟨84 * a.val + c.val, by omega⟩ j) := by
  refine congrArg x0 (funext fun b => Fin.ext ?_)
  fin_cases b <;> simp [ix3]

/-- A corner coordinate, as loaded. -/
theorem ldA_at (x1 : Vec Ideal S1x32x2500 .f32) (a : Fin 8) (c : Fin 4) (j : Fin 2500) :
    ldA x1 a c (ix3 0 0 j) = x1 (ix3 0 ⟨4 * a.val + c.val, by omega⟩ j) := by
  refine congrArg x1 (funext fun b => Fin.ext ?_)
  fin_cases b <;> simp [ix3]

/-- The anchor a row belongs to. -/
abbrev anchorOf (r : Fin 48) : Fin 8 := ⟨r.val % 8, Nat.mod_lt _ (by norm_num)⟩
/-- The number a row holds. -/
abbrev numberOf (r : Fin 48) : Fin 6 := ⟨r.val / 8, by have := r.isLt; omega⟩

theorem rowIds_mem : ∀ (a : Fin 8) (c : Fin 6), (a, c) ∈ rowIds := by decide +kernel

/-- What the first launch leaves of one block. -/
theorem out_at (x0 : Vec Ideal S1x672x2500 .f32) (x1 : Vec Ideal S1x32x2500 .f32) (r : Fin 48) (j : Fin 2500) :
    out0_2 x0 x1 (ix3 0 r j)
      = decode (fun c => x0 (ix3 0 ⟨84 * (r.val % 8) + 4 + c.val, by omega⟩ j)) (fun c => x0 (ix3 0 ⟨84 * (r.val % 8) + c.val, by omega⟩ j))
          (fun c => x1 (ix3 0 ⟨4 * (r.val % 8) + c.val, by omega⟩ j)) (numberOf r) := by
  rw [out_eq]
  refine (View.canon_apply_of_pieces (fun y => row (ldS x0 (anchorOf (y 1))) (ldD x0 (anchorOf (y 1))) (ldA x1 (anchorOf (y 1)))
    (numberOf (y 1)) (ix3 0 0 (y 2))) _ ?_ (ix3 0 r j) ?_).trans ?_
  · intro q hq x
    obtain ⟨⟨a, c⟩, -, rfl⟩ := List.mem_map.1 hq
    obtain ⟨z, w, l, rfl⟩ : ∃ (z w : Fin 1) (l : Fin 2500), x = ix3 z w l := ⟨x 0, x 1, x 2, eq_ix3 x⟩
    obtain rfl : z = 0 := Subsingleton.elim _ _
    obtain rfl : w = 0 := Subsingleton.elim _ _
    have e1 : (Rect.unit (s := S1x48x2500) ![0, 8 * c.val + a.val, 0] S1x1x2500.size (inbW a c)).emb (ix3 0 0 l) 1
        = (⟨8 * c.val + a.val, by omega⟩ : Fin 48) :=
      Fin.ext (ValueKit.rect_emb_unit_val _ _ (inbW a c) _ _)
    have e2 : (Rect.unit (s := S1x48x2500) ![0, 8 * c.val + a.val, 0] S1x1x2500.size (inbW a c)).emb (ix3 0 0 l) 2 = l :=
      Fin.ext ((ValueKit.rect_emb_unit_val _ _ (inbW a c) _ _).trans (Nat.zero_add _))
    have ea : anchorOf (⟨8 * c.val + a.val, by omega⟩ : Fin 48) = a := Fin.ext (by simp only [anchorOf]; omega)
    have ec : numberOf (⟨8 * c.val + a.val, by omega⟩ : Fin 48) = c := Fin.ext (by simp only [numberOf]; omega)
    have gen : ∀ (r : Fin 48) (j : Fin 2500), r = ⟨8 * c.val + a.val, by omega⟩ → j = l →
        row (ldS x0 a) (ldD x0 a) (ldA x1 a) c (ix3 0 0 l)
          = row (ldS x0 (anchorOf r)) (ldD x0 (anchorOf r)) (ldA x1 (anchorOf r)) (numberOf r) (ix3 0 0 j) := by
      rintro _ _ rfl rfl
      rw [ea, ec]
    exact gen _ _ e1 e2
  · refine ⟨_, List.mem_map.2 ⟨(anchorOf r, numberOf r), rowIds_mem _ _, rfl⟩, ?_⟩
    refine (Rect.mem_set_unit (inb := inbW _ _)).2 fun a => ?_
    have := r.isLt
    fin_cases a <;> simp [ix3, S1x1x2500] <;> omega
  · exact (row_at _ _ _ _ _).trans (congrFun (congr (congr (congrArg decode (funext fun c => ldS_at x0 (anchorOf r) c j))
      (funext fun c => ldD_at x0 (anchorOf r) c j)) (funext fun c => ldA_at x1 (anchorOf r) c j)) _)

end Cert.K0

end

end
-- ==== Proof.K1Tree.lean ====
module

public import proofs.«01_k».proof.Proof.Gen.KernelIdeal.Frame
public import Idealize.ShloMosaic.Lib.WholeRead

/-! # The suppression kernel as operation trees

The second launch keeps its overlap table in tiles of 128 rows. This module names one tile, one batch's starting mask,
one round of the suppression loop and one batch's compaction, each as a function of the vectors it loads, and says that
the run's piece lists are these functions applied to the loads. Nothing here reads an element. -/

@[expose] public section

set_option maxRecDepth 16384

noncomputable section

namespace Cert.K1

open Idealize.ShloMosaic Idealize.ShloMosaic.TcCoe Idealize.ShloMosaic.Tactic
open Cert.KernelIdeal Cert.KernelIdeal.Gen

variable {F : FTy → Type} [FloatOps F]

/-- Every one-row box of the coordinate-major table lies inside it. -/
theorem inbR : ∀ (b : Fin 4) (k : Fin 8) (a : Fin 3), (![b.val, k.val, 0] : Fin 3 → ℕ) a + S1x1x1024.size a ≤ S4x8x1024.size a := by
  decide
/-- Every 128-row column box of the box-major table lies inside it. -/
theorem inbC : ∀ (b : Fin 4) (t : Fin 8) (k : Fin 4) (a : Fin 3),
    (![b.val, 128 * t.val, k.val] : Fin 3 → ℕ) a + S1x128x1.size a ≤ S4x1024x128.size a := by decide
/-- Every 128-row tile lies inside the overlap table. -/
theorem inbT : ∀ (b : Fin 4) (t : Fin 8) (a : Fin 3),
    (![b.val, 128 * t.val, 0] : Fin 3 → ℕ) a + S1x128x1024.size a ≤ S4x1024x1024.size a := by decide
/-- Every batch of the box-major table lies inside it. -/
theorem inbB : ∀ (b : Fin 4) (a : Fin 3), (![b.val, 0, 0] : Fin 3 → ℕ) a + S1x1024x128.size a ≤ S4x1024x128.size a := by decide
/-- Every batch of the result lies inside it. -/
theorem inbO : ∀ (b : Fin 4) (a : Fin 3), (![b.val, 0, 0] : Fin 3 → ℕ) a + S1x304x128.size a ≤ S4x304x128.size a := by decide

/-- The load of coordinate `k` of batch `b` along the lanes. -/
abbrev ldR (arg1 : Memref sig .tc .vmem S4x8x1024 .f32) (harg1 : arg1.IsWhole) (x0 : Vec F S4x8x1024 .f32) (b : Fin 4) (k : Fin 8) :
    Vec F S1x1x1024 .f32 :=
  View.readAt (Elt F) arg1.view (Rect.unit (s := S4x8x1024) ![b.val, k.val, 0] S1x1x1024.size (inbR b k)).toLoadRect (harg1.unread x0)
/-- The load of coordinate `k` of tile `t` of batch `b` along the sublanes. -/
abbrev ldC (arg2 : Memref sig .tc .vmem S4x1024x128 .f32) (harg2 : arg2.IsWhole) (x1 : Vec F S4x1024x128 .f32) (b : Fin 4) (t : Fin 8)
    (k : Fin 4) : Vec F S1x128x1 .f32 :=
  View.readAt (Elt F) arg2.view (Rect.unit (s := S4x1024x128) ![b.val, 128 * t.val, k.val] S1x128x1.size (inbC b t k)).toLoadRect (harg2.unread x1)
/-- The load of the whole of batch `b`. -/
abbrev ldB (arg2 : Memref sig .tc .vmem S4x1024x128 .f32) (harg2 : arg2.IsWhole) (x1 : Vec F S4x1024x128 .f32) (b : Fin 4) :
    Vec F S1x1024x128 .f32 :=
  View.readAt (Elt F) arg2.view (Rect.unit (s := S4x1024x128) ![b.val, 0, 0] S1x1024x128.size (inbB b)).toLoadRect (harg2.unread x1)

/-- A load along the lanes as a row. -/
abbrev asRow (r : Vec F S1x1x1024 .f32) : FVec F S1x1024 .f32 := shapeCast S1x1024 r shapeCasts_S1x1x1024_S1x1024
/-- A load along the sublanes as a column. -/
abbrev asCol (r : Vec F S1x128x1 .f32) : FVec F S128x1 .f32 := shapeCast S128x1 r shapeCasts_S1x128x1_S128x1

/-- A zero in every place of a tile. -/
abbrev zeroT : FVec F S128x1024 .f32 := broadcast S128x1024 (Scalar.ofBits .f32 0x00000000#32)

/-- The common extent of 128 intervals with 1024 intervals, zero where they do not meet. -/
abbrev extent (lo hi : Vec F S1x128x1 .f32) (rlo rhi : Vec F S1x1x1024 .f32) : FVec F S128x1024 .f32 :=
  maximumf (subf
    (minimumf (broadcastTo S128x1024 (asCol hi) broadcasts_S128x1_S128x1024)
      (broadcastTo S128x1024 (asRow rhi) broadcasts_S1x1024_S128x1024))
    (maximumf (broadcastTo S128x1024 (asCol lo) broadcasts_S128x1_S128x1024)
      (broadcastTo S128x1024 (asRow rlo) broadcasts_S1x1024_S128x1024))) zeroT

/-- The common area of 128 boxes with 1024 boxes. -/
abbrev interT (q : Fin 4 → Vec F S1x128x1 .f32) (r : Fin 8 → Vec F S1x1x1024 .f32) : FVec F S128x1024 .f32 :=
  mulf (extent (q 0) (q 2) (r 0) (r 2)) (extent (q 1) (q 3) (r 1) (r 3))

/-- The joint area of 128 boxes with 1024 boxes. -/
abbrev unionT (q : Fin 4 → Vec F S1x128x1 .f32) (r : Fin 8 → Vec F S1x1x1024 .f32) : FVec F S128x1024 .f32 :=
  subf (addf
    (broadcastTo S128x1024 (mulf (subf (asCol (q 2)) (asCol (q 0))) (subf (asCol (q 3)) (asCol (q 1)))) broadcasts_S128x1_S128x1024)
    (broadcastTo S128x1024 (mulf (subf (asRow (r 2)) (asRow (r 0))) (subf (asRow (r 3)) (asRow (r 1)))) broadcasts_S1x1024_S128x1024))
    (interT q r)

/-- One tile of the overlap table. -/
def tile (q : Fin 4 → Vec F S1x128x1 .f32) (r : Fin 8 → Vec F S1x1x1024 .f32) : FVec F S1x128x1024 .f32 :=
  shapeCast S1x128x1024 (select (cmpf .ogt (unionT q r) zeroT) (divf (interT q r) (unionT q r)) zeroT) shapeCasts_S128x1024_S1x128x1024

/-- One batch's starting mask: a good score and a box with positive sides. -/
def mask0 (r : Fin 8 → Vec F S1x1x1024 .f32) : FVec F S1x1024 .f32 :=
  sitofp .f32 (extui 32 (andi (andi
    (cmpf .oge (asRow (r 5)) (broadcast S1x1024 (Scalar.ofBits .f32 0x3D4CCCCD#32)))
    (cmpf .olt (asRow (r 0)) (asRow (r 2)))) (cmpf .olt (asRow (r 1)) (asRow (r 3)))) natLt_1_32)

/-- The four batches' starting masks. -/
def masks0 (R : Fin 4 → Fin 8 → Vec F S1x1x1024 .f32) : FVec F S4x1024 .f32 :=
  concatenate S4x1024 0 [⟨S1x1024, mask0 (R 0)⟩, ⟨S1x1024, mask0 (R 1)⟩, ⟨S1x1024, mask0 (R 2)⟩, ⟨S1x1024, mask0 (R 3)⟩]
    concatenates_S1x1024_S1x1024_S1x1024_S1x1024_S4x1024_d0

/-- The tiles in the order they were stored, the last first. -/
def tileIds : List (Fin 4 × Fin 8) :=
  [3, 2, 1, 0].flatMap fun b => [7, 6, 5, 4, 3, 2, 1, 0].map fun t => (b, t)

/-- The piece a tile is stored as. -/
def tilePiece (R : Fin 4 → Fin 8 → Vec F S1x1x1024 .f32) (C : Fin 4 → Fin 8 → Fin 4 → Vec F S1x128x1 .f32) (p : Fin 4 × Fin 8) :
    View.Piece (Elt F) S4x1024x1024 .f32 :=
  ⟨Rect.unit ![p.1.val, 128 * p.2.val, 0] S1x128x1024.size (inbT p.1 p.2), tile (C p.1 p.2) (R p.1)⟩

/-- What the tiles' stores amount to. -/
theorem tiles_eq (c : Dev nD) (arg1 : Memref sig .tc .vmem S4x8x1024 .f32) (harg1 : arg1.IsWhole)
    (arg2 : Memref sig .tc .vmem S4x1024x128 .f32) (harg2 : arg2.IsWhole) (x0 : Vec F S4x8x1024 .f32) (x1 : Vec F S4x1024x128 .f32) :
    kernelRun1_A.sl.HS0_32 c arg1 harg1 arg2 harg2 x0 x1
      = tileIds.map (tilePiece (ldR arg1 harg1 x0) (ldC arg2 harg2 x1)) := by
  sl_kernel_rfl

/-- One batch's rows from the final masks, `row` that batch's mask. -/
def compact (row : FVec F S1x1024 .f32) (box : Vec F S1x1024x128 .f32) : FVec F S1x304x128 .f32 :=
  shapeCast S1x304x128 (matmul dot_S304x1024_S1024x128_S304x128_1_0_0_1_n_n none
    (sitofp .f32 (extui 32 (andi
      (cmpi .eq (broadcastTo S304x1024 (shapeCast S1x1024 (subi (fptosi 32
          (matmul dot_S1x1024_S1024x1024_S1x1024_1_0_0_1_n_n none row
            (sitofp .f32 (extui 32 (cmpi .sle (iota .tc S1024x1024 32 [0] iota_S1024x1024_d0_w32)
              (iota .tc S1024x1024 32 [1] iota_S1024x1024_d1_w32)) natLt_1_32) : FVec F S1024x1024 .f32)
            (constant S1x1024 .f32 0x00000000#32)))
          (broadcast S1x1024 1#32)) shapeCasts_S1x1024_S1x1024) broadcasts_S1x1024_S304x1024)
        (iota .tc S304x1024 32 [0] iota_S304x1024_d0_w32))
      (broadcastTo S304x1024 (cmpf .ogt row (broadcast S1x1024 (Scalar.ofBits .f32 0x00000000#32))) broadcasts_S1x1024_S304x1024)) natLt_1_32))
    (shapeCast S1024x128 box shapeCasts_S1x1024x128_S1024x128) (constant S304x128 .f32 0x00000000#32)) shapeCasts_S304x128_S1x304x128

/-- Every batch's mask lies inside the masks. -/
theorem slcM : ∀ b : Fin 4, S4x1024.Slices ![b.val, 0] S1x1024 := by decide

/-- The masks before round `k`, the overlap table holding `X`. -/
def masks (c : Dev nD) (i : grid1.Coords) (arg1 : Memref sig .tc .vmem S4x8x1024 .f32) (harg1 : arg1.IsWhole)
    (arg2 : Memref sig .tc .vmem S4x1024x128 .f32) (harg2 : arg2.IsWhole) (arg3 : Memref sig .tc .vmem S4x304x128 .f32)
    (harg3 : arg3.IsWhole) (arg4 : Memref sig .tc .vmem S4x1024x1024 .f32) (harg4 : arg4.IsWhole) (x0 : Vec F S4x8x1024 .f32)
    (x1 : Vec F S4x1024x128 .f32) (X : BufTy.Contents (Elt F) arg4.view.ty) (init : FVec F S4x1024 .f32) (k : ℕ) : FVec F S4x1024 .f32 :=
  st_k1_t1 Variants.none c none i arg1 harg1 arg2 harg2 arg3 harg3 arg4 harg4 (kernelRun1_A.sl.r_5 c arg1 harg1 x0)
    (kernelRun1_A.sl.r_35 c arg1 harg1 x0) (kernelRun1_A.sl.r_77 c arg1 harg1 x0) (kernelRun1_A.sl.r_122 c arg1 harg1 x0)
    (kernelRun1_A.sl.r_123 c arg1 harg1 x0) (kernelRun1_A.sl.r_124 c arg1 harg1 x0) (kernelRun1_A.sl.r_125 c arg1 harg1 x0)
    (kernelRun1_A.sl.r_156 c arg2 harg2 x1) (kernelRun1_A.sl.r_157 c arg2 harg2 x1) (kernelRun1_A.sl.r_158 c arg2 harg2 x1)
    (kernelRun1_A.sl.r_159 c arg1 harg1 arg2 harg2 x0 x1) (kernelRun1_A.sl.r_160 c arg1 harg1 arg2 harg2 x0 x1) X init k

/-- What the result's stores amount to. -/
theorem outs_eq (c : Dev nD) (i : grid1.Coords) (arg1 : Memref sig .tc .vmem S4x8x1024 .f32) (harg1 : arg1.IsWhole)
    (arg2 : Memref sig .tc .vmem S4x1024x128 .f32) (harg2 : arg2.IsWhole) (arg3 : Memref sig .tc .vmem S4x304x128 .f32)
    (harg3 : arg3.IsWhole) (arg4 : Memref sig .tc .vmem S4x1024x1024 .f32) (harg4 : arg4.IsWhole) (x0 : Vec F S4x8x1024 .f32)
    (x1 : Vec F S4x1024x128 .f32) :
    (kernelRun1_A c i arg1 harg1 arg2 harg2 arg3 harg3 arg4 harg4 x0 x1).1
      = [3, 2, 1, 0].map fun b : Fin 4 =>
          (⟨Rect.unit ![b.val, 0, 0] S1x304x128.size (inbO b),
            compact (extractStridedSlice S1x1024 ![b.val, 0]
              (masks c i arg1 harg1 arg2 harg2 arg3 harg3 arg4 harg4 x0 x1
                (arg4.view.writes (Elt F) arg4.view.junk (kernelRun1_A.sl.HS0_32 c arg1 harg1 arg2 harg2 x0 x1))
                (masks0 (ldR arg1 harg1 x0)) k1_t1_loop.trips) (slcM b)) (ldB arg2 harg2 x1 b)⟩ : View.Piece (Elt F) S4x304x128 .f32) := by
  sl_kernel_rfl

/-- One round of the suppression, `o` the four batches' overlap rows of the pivot. -/
def round (k : Fin k1_t1_loop.trips) (acc : FVec F S4x1024 .f32) (o : Fin 4 → Vec F S1x1x1024 .f32) : FVec F S4x1024 .f32 :=
  mulf acc (subf (broadcast S4x1024 (Scalar.ofBits .f32 0x3F800000#32))
    (sitofp .f32 (extui 32 (andi (andi
      (cmpf .ogt (concatenate S4x1024 0 [⟨S1x1024, asRow (o 0)⟩, ⟨S1x1024, asRow (o 1)⟩, ⟨S1x1024, asRow (o 2)⟩, ⟨S1x1024, asRow (o 3)⟩]
        concatenates_S1x1024_S1x1024_S1x1024_S1x1024_S4x1024_d0) (broadcast S4x1024 (Scalar.ofBits .f32 0x3F000000#32)))
      (cmpi .sgt (iota .tc S4x1024 32 [1] iota_S4x1024_d1_w32) (broadcast S4x1024 (Scf.iv 0#32 1#32 k))))
      (broadcastTo S4x1024 (cmpf .ogt (shapeCast S4x1 (multiReduction .add [1] S4
          (select (cmpi .eq (iota .tc S4x1024 32 [1] iota_S4x1024_d1_w32) (broadcast S4x1024 (Scf.iv 0#32 1#32 k))) acc
            (broadcast S4x1024 (Scalar.ofBits .f32 0x00000000#32))) 0x00000000#32 reduces_S4x1024_S4 (.inl rfl) rfl) shapeCasts_S4_S4x1)
        (broadcast S4x1 (Scalar.ofBits .f32 0x00000000#32))) broadcasts_S4x1_S4x1024)) natLt_1_32)))

/-- The load of the pivot's overlap row of batch `b` in round `k`. -/
abbrev ldO (arg4 : Memref sig .tc .vmem S4x1024x1024 .f32) (X : BufTy.Contents (Elt F) arg4.view.ty) (k : ℕ) (hk : k < 1000) (b : Fin 4) :
    Vec F S1x1x1024 .f32 :=
  View.readAt (Elt F) arg4.view (Rect.unit (s := S4x1024x1024) ![b.val, k, 0] S1x1x1024.size
    (by intro a; fin_cases a <;> simp [S1x1x1024, S4x1024x1024] <;> omega)).toLoadRect X

/-- What one trip of the suppression loop yields. -/
theorem trip_eq (c : Dev nD) (i : grid1.Coords) (arg1 : Memref sig .tc .vmem S4x8x1024 .f32) (harg1 : arg1.IsWhole)
    (arg2 : Memref sig .tc .vmem S4x1024x128 .f32) (harg2 : arg2.IsWhole) (arg3 : Memref sig .tc .vmem S4x304x128 .f32)
    (harg3 : arg3.IsWhole) (arg4 : Memref sig .tc .vmem S4x1024x1024 .f32) (harg4 : arg4.IsWhole) (x0 : Vec F S4x8x1024 .f32)
    (x1 : Vec F S4x1024x128 .f32) (X : BufTy.Contents (Elt F) arg4.view.ty) (init : FVec F S4x1024 .f32) (k : Fin k1_t1_loop.trips) :
    masks c i arg1 harg1 arg2 harg2 arg3 harg3 arg4 harg4 x0 x1 X init (k.val + 1)
      = k1_pay246 k (masks c i arg1 harg1 arg2 harg2 arg3 harg3 arg4 harg4 x0 x1 X init k.val)
          (View.readAt (Elt F) arg4.view (Rect.unit (s := S4x1024x1024) (k1_off1 k) S1x1x1024.size (k1_off1_inb k)).toLoadRect X)
          (View.readAt (Elt F) arg4.view (Rect.unit (s := S4x1024x1024) (k1_off2 k) S1x1x1024.size (k1_off2_inb k)).toLoadRect X)
          (View.readAt (Elt F) arg4.view (Rect.unit (s := S4x1024x1024) (k1_off3 k) S1x1x1024.size (k1_off3_inb k)).toLoadRect X)
          (View.readAt (Elt F) arg4.view (Rect.unit (s := S4x1024x1024) (k1_off4 k) S1x1x1024.size (k1_off4_inb k)).toLoadRect X) := by
  unfold masks
  rw [st_k1_t1_succ]
  sl_kernel_rfl

end Cert.K1

end

end
-- ==== Proof.K1Val.lean ====
module

public import proofs.«01_k».proof.Proof.K1Tree
public import proofs.«01_k».proof.Proof.Spec
public import Idealize.ShloMosaic.Lib.Pipeline.ValueKit
public import proofs.«01_k».proof.Proof.Words

/-! # The suppression kernel read element by element

The two tables the second launch takes hold the same boxes, once by coordinate and once by place; past place 1000 both
hold zero. Then the launch leaves the kept boxes in order. -/

@[expose] public section

set_option maxRecDepth 16384

noncomputable section

namespace Cert.K1

open Idealize.ShloMosaic Idealize.ShloMosaic.TcCoe Idealize.ShloMosaic.Tactic
open Cert.KernelIdeal Cert.KernelIdeal.Gen Cert.Spec Cert.Words
open scoped Classical

/-- One element of a tile. -/
theorem tile_at (q : Fin 4 → Vec Ideal S1x128x1 .f32) (r : Fin 8 → Vec Ideal S1x1x1024 .f32) (i : Fin 128) (j : Fin 1024) (u v : Box)
    (hu : ∀ k : Fin 4, q k (ix3 0 i 0) = u (k.castLE (by decide))) (hv : ∀ k : Fin 6, r (k.castLE (by decide)) (ix3 0 0 j) = v k) :
    tile q r (ix3 0 i j) = iou u v := by
  unfold tile
  pointwise
  rw [show q 0 (ix3 0 i 0) = u 0 from hu 0, show q 1 (ix3 0 i 0) = u 1 from hu 1, show q 2 (ix3 0 i 0) = u 2 from hu 2,
    show q 3 (ix3 0 i 0) = u 3 from hu 3, show r 0 (ix3 0 0 j) = v 0 from hv 0, show r 1 (ix3 0 0 j) = v 1 from hv 1,
    show r 2 (ix3 0 0 j) = v 2 from hv 2, show r 3 (ix3 0 0 j) = v 3 from hv 3]
  unfold iou Spec.union Spec.inter area
  split <;> rfl

/-- One element of a starting mask. -/
theorem mask0_at (r : Fin 8 → Vec Ideal S1x1x1024 .f32) (j : Fin 1024) (v : Box)
    (hv : ∀ k : Fin 6, r (k.castLE (by decide)) (ix3 0 0 j) = v k) :
    mask0 r (ix2 0 j) = if good v then (1 : EReal) else 0 := by
  unfold mask0
  pointwise
  rw [show r 0 (ix3 0 0 j) = v 0 from hv 0, show r 1 (ix3 0 0 j) = v 1 from hv 1,
    show r 2 (ix3 0 0 j) = v 2 from hv 2, show r 3 (ix3 0 0 j) = v 3 from hv 3, show r 5 (ix3 0 0 j) = v 5 from hv 5, num_bit]
  refine if_congr ?_ rfl rfl
  rw [and_iff, and_iff, bit_iff, bit_iff, bit_iff]
  exact Iff.rfl

/-- One element of the starting masks. -/
theorem masks0_at (R : Fin 4 → Fin 8 → Vec Ideal S1x1x1024 .f32) (T : Fin 4 → ℕ → Box)
    (hR : ∀ (b : Fin 4) (k : Fin 6) (j : Fin 1024), R b (k.castLE (by decide)) (ix3 0 0 j) = T b j k) (b : Fin 4) (j : Fin 1024) :
    masks0 R (ix2 b j) = if keep (T b) 0 j then (1 : EReal) else 0 := by
  unfold masks0
  pointwise
  unfold keep
  fin_cases b
  · exact mask0_at (R 0) j _ fun k => hR 0 k j
  · exact mask0_at (R 1) j _ fun k => hR 1 k j
  · exact mask0_at (R 2) j _ fun k => hR 2 k j
  · exact mask0_at (R 3) j _ fun k => hR 3 k j

/-- One element of a round. -/
theorem round_at (k : Fin k1_t1_loop.trips) (hk : k.val < 1000) (acc : FVec Ideal S4x1024 .f32) (o : Fin 4 → Vec Ideal S1x1x1024 .f32)
    (T : Fin 4 → ℕ → Box)
    (hacc : ∀ (b : Fin 4) (j : Fin 1024), acc (ix2 b j) = if keep (T b) k.val j then (1 : EReal) else 0)
    (ho : ∀ (b : Fin 4) (j : Fin 1024), o b (ix3 0 0 j) = iou (T b k.val) (T b j)) (b : Fin 4) (j : Fin 1024) :
    round k acc o (ix2 b j) = if keep (T b) (k.val + 1) j then (1 : EReal) else 0 := by
  have hrow : (∑ x : Fin 1024, Scalar.select (IntOp.cmpi CmpIPredicate.eq (BitVec.ofNat 32 x) (BitVec.ofNat 32 k.val)) (acc (ix2 b x)) (0 : EReal))
      = if keep (T b) k.val k.val then (1 : EReal) else 0 := by
    rw [Finset.sum_eq_single (⟨k.val, by omega⟩ : Fin 1024)]
    · rw [select_eq, if_pos ((eq_iff _ _).2 rfl)]; exact hacc b ⟨k.val, by omega⟩
    · intro x _ hx
      rw [select_eq, if_neg]
      rw [eq_iff, ofNat_inj (by omega) (by omega)]
      exact fun h => hx (Fin.ext h)
    · intro h; exact absurd (Finset.mem_univ _) h
  have hsel : (if h : b.val < 1 then o 0 (ix3 0 0 j) else if h : b.val - 1 < 1 then o 1 (ix3 0 0 j)
      else if h : b.val - 1 - 1 < 1 then o 2 (ix3 0 0 j) else o 3 (ix3 0 0 j)) = iou (T b k.val) (T b j) := by
    rw [← ho b j]; fin_cases b <;> rfl
  unfold round
  pointwise
  rw [iv_eq, hrow, hsel, hacc, num_bit]
  have hb : (IntOp.andi (IntOp.andi (BitVec.ofBool (decide (Ideal.ofBits FTy.f32 1056964608#32 < iou (T b k.val) (T b j))))
      (IntOp.cmpi CmpIPredicate.sgt (BitVec.ofNat 32 j) (BitVec.ofNat 32 k.val)))
      (BitVec.ofBool (decide (0 < if keep (T b) k.val k.val then (1 : EReal) else 0))) = 1#1)
      ↔ (close (T b k.val) (T b j) ∧ k.val < j.val) ∧ keep (T b) k.val k.val := by
    rw [and_iff, and_iff, bit_iff, bit_iff, sgt_bit (by omega) (by omega)]
    refine and_congr Iff.rfl ?_
    by_cases h : keep (T b) k.val k.val
    · rw [if_pos h]; exact ⟨fun _ => h, fun _ => zero_lt_one⟩
    · rw [if_neg h]; exact ⟨fun h' => absurd h' (lt_irrefl _), fun h' => absurd h' h⟩
  rw [if_congr hb rfl rfl, if_congr (keep_succ _ _ _) rfl rfl]
  by_cases h1 : keep (T b) k.val j.val <;>
    by_cases h2 : (close (T b k.val) (T b j) ∧ k.val < j.val) ∧ keep (T b) k.val k.val
  · rw [if_pos h1, if_pos h2, if_neg (fun h => h.2 h2), show (1 : EReal) - 1 = 0 from EReal.sub_self (EReal.coe_ne_top 1) (EReal.coe_ne_bot 1), mul_zero]
  · rw [if_pos h1, if_neg h2, if_pos ⟨h1, h2⟩, sub_zero, mul_one]
  · rw [if_neg h1, zero_mul]; exact (if_neg fun h => h1 h.1).symm
  · rw [if_neg h1, zero_mul]; exact (if_neg fun h => h1 h.1).symm

/-- One element of a batch's rows. -/
theorem compact_at (row : FVec Ideal S1x1024 .f32) (box : Vec Ideal S1x1024x128 .f32) (T : ℕ → Box) (P : ℕ → Prop)
    (hrow : ∀ j : Fin 1024, row (ix2 0 j) = if P j then (1 : EReal) else 0)
    (hbox : ∀ (j : Fin 1024) (k : Fin 6), box (ix3 0 j (k.castLE (by decide))) = T j k) (p : Fin 304) (k : Fin 6) :
    compact row box (ix3 0 p (k.castLE (by decide))) = out T P 1024 p k := by
  unfold compact
  pointwise
  unfold out
  rw [← Fin.sum_univ_eq_sum_range (fun i => if P i ∧ Nat.count P (i + 1) = p + 1 then T i k else 0) 1024]
  refine Finset.sum_congr rfl fun x _ => ?_
  have hc : (∑ x_1 : Fin 1024, row (ix2 0 x_1) * FloatOps.sitofp (F := Ideal) FTy.f32 (BitVec.setWidth 32
      (IntOp.cmpi CmpIPredicate.sle (BitVec.ofNat 32 x_1) (BitVec.ofNat 32 x)))) = ((Nat.count P (x.val + 1) : ℕ) : EReal) := by
    rw [← sum_count (n := 1024) P x.val x.isLt]
    refine Finset.sum_congr rfl fun y _ => ?_
    rw [hrow, num_bit, if_congr (sle_bit (by omega) (by omega)) rfl rfl]
  have hle : Nat.count P (x.val + 1) ≤ x.val + 1 := Nat.count_le _
  rw [hc, num_bit, hbox, hrow]
  have hb : (IntOp.andi (IntOp.cmpi CmpIPredicate.eq (IntOp.subi (FloatOps.fptosi (F := Ideal) (φ := FTy.f32) 32 ((Nat.count P (x.val + 1) : ℕ) : EReal)) 1#32)
      (BitVec.ofNat 32 p)) (BitVec.ofBool (decide (0 < if P x.val then (1 : EReal) else 0))) = 1#1)
      ↔ (P x.val ∧ Nat.count P (x.val + 1) = p.val + 1) := by
    rw [and_iff, eq_iff, bit_iff, fptosi_nat (by omega)]
    refine ⟨fun h => ⟨?_, ?_⟩, fun h => ⟨?_, ?_⟩⟩
    · by_contra hn; rw [if_neg hn] at h; exact lt_irrefl _ h.2
    · have := congrArg BitVec.toNat h.1
      simp only [IntOp.subi, BitVec.toNat_sub, BitVec.toNat_ofNat] at this
      omega
    · apply BitVec.eq_of_toNat_eq
      simp only [IntOp.subi, BitVec.toNat_sub, BitVec.toNat_ofNat]
      omega
    · rw [if_pos h.1]; exact zero_lt_one
  rw [if_congr hb rfl rfl]
  split <;> simp

/-- A load along the lanes reads its row. -/
theorem ldR_at (arg1 : Memref sig .tc .vmem S4x8x1024 .f32) (harg1 : arg1.IsWhole) (x0 : Vec Ideal S4x8x1024 .f32) (b : Fin 4) (k : Fin 8)
    (j : Fin 1024) : ldR arg1 harg1 x0 b k (ix3 0 0 j) = x0 (ix3 b k j) := by
  refine (harg1.readAt_unread x0 _ _).trans (congrArg x0 (funext fun a => Fin.ext ?_))
  fin_cases a <;> simp [ix3]

/-- A load along the sublanes reads its column. -/
theorem ldC_at (arg2 : Memref sig .tc .vmem S4x1024x128 .f32) (harg2 : arg2.IsWhole) (x1 : Vec Ideal S4x1024x128 .f32) (b : Fin 4) (t : Fin 8)
    (k : Fin 4) (i : Fin 128) :
    ldC arg2 harg2 x1 b t k (ix3 0 i 0) = x1 (ix3 b ⟨128 * t.val + i.val, by omega⟩ (k.castLE (by decide))) := by
  refine (harg2.readAt_unread x1 _ _).trans (congrArg x1 (funext fun a => Fin.ext ?_))
  fin_cases a <;> simp [ix3]

/-- A load of a batch reads that batch. -/
theorem ldB_at (arg2 : Memref sig .tc .vmem S4x1024x128 .f32) (harg2 : arg2.IsWhole) (x1 : Vec Ideal S4x1024x128 .f32) (b : Fin 4)
    (j : Fin 1024) (l : Fin 128) : ldB arg2 harg2 x1 b (ix3 0 j l) = x1 (ix3 b j l) := by
  refine (harg2.readAt_unread x1 _ _).trans (congrArg x1 (funext fun a => Fin.ext ?_))
  fin_cases a <;> simp [ix3]

/-- The overlap table after the tiles' stores. -/
theorem table_at (c : Dev nD) (arg1 : Memref sig .tc .vmem S4x8x1024 .f32) (harg1 : arg1.IsWhole)
    (arg2 : Memref sig .tc .vmem S4x1024x128 .f32) (harg2 : arg2.IsWhole) (arg4 : Memref sig .tc .vmem S4x1024x1024 .f32)
    (x0 : Vec Ideal S4x8x1024 .f32) (x1 : Vec Ideal S4x1024x128 .f32) (T : Fin 4 → ℕ → Box)
    (h0 : ∀ (b : Fin 4) (k : Fin 6) (j : Fin 1024), x0 (ix3 b (k.castLE (by decide)) j) = T b j k)
    (h1 : ∀ (b : Fin 4) (j : Fin 1024) (k : Fin 6), x1 (ix3 b j (k.castLE (by decide))) = T b j k) (b : Fin 4) (i j : Fin 1024) :
    arg4.view.read (Elt Ideal) (arg4.view.writes (Elt Ideal) arg4.view.junk (kernelRun1_A.sl.HS0_32 c arg1 harg1 arg2 harg2 x0 x1))
      (ix3 b i j) = iou (T b i) (T b j) := by
  rw [tiles_eq]
  refine View.read_writes_apply_of_pieces (Val := Elt Ideal) arg4.view _ (fun y => (iou (T (y 0) (y 1).val) (T (y 0) (y 2).val) : Elt Ideal .f32)) _ ?_ _ ?_
  · intro p hp x
    obtain ⟨⟨b', t⟩, -, rfl⟩ := List.mem_map.1 hp
    obtain ⟨z, i', j', rfl⟩ : ∃ (z : Fin 1) (i' : Fin 128) (j' : Fin 1024), x = ix3 z i' j' := ⟨x 0, x 1, x 2, eq_ix3 x⟩
    obtain rfl : z = 0 := Subsingleton.elim _ _
    refine (tile_at _ _ i' j' (T b' (128 * t.val + i'.val)) (T b' j'.val) (fun k => ?_) (fun k => ?_)).trans ?_
    · rw [ldC_at]; exact h1 b' ⟨128 * t.val + i'.val, by omega⟩ (k.castLE (by decide))
    · rw [ldR_at]; exact h0 b' _ _
    · have e0 : ((tilePiece (ldR arg1 harg1 x0) (ldC arg2 harg2 x1) (b', t)).1.emb (ix3 0 i' j')) 0 = b' :=
        Fin.ext (ValueKit.rect_emb_unit_val _ _ (inbT b' t) _ _)
      have e1 : (((tilePiece (ldR arg1 harg1 x0) (ldC arg2 harg2 x1) (b', t)).1.emb (ix3 0 i' j')) 1).val = 128 * t.val + i'.val :=
        ValueKit.rect_emb_unit_val _ _ (inbT b' t) _ _
      have e2 : (((tilePiece (ldR arg1 harg1 x0) (ldC arg2 harg2 x1) (b', t)).1.emb (ix3 0 i' j')) 2).val = j'.val :=
        (ValueKit.rect_emb_unit_val _ _ (inbT b' t) _ _).trans (Nat.zero_add _)
      rw [e0, e1, e2]
  · have ht : i.val / 128 < 8 := by omega
    refine ⟨_, List.mem_map.2 ⟨(b, ⟨i.val / 128, ht⟩), ?_, rfl⟩, ?_⟩
    · exact (by decide : ∀ p : Fin 4 × Fin 8, p ∈ tileIds) _
    · refine (Rect.mem_set_unit (inb := inbT b ⟨i.val / 128, ht⟩)).2 fun a => ?_
      fin_cases a
      · simp [ix3, S1x128x1024]
      · simp [ix3, S1x128x1024]; omega
      · simp [ix3, S1x128x1024]

/-- The pivot's row of the overlap table, loaded. -/
theorem readO_at (arg4 : Memref sig .tc .vmem S4x1024x1024 .f32) (X : BufTy.Contents (Elt Ideal) arg4.view.ty) (off : Fin 3 → ℕ)
    (inb : ∀ a, off a + S1x1x1024.size a ≤ S4x1024x1024.size a) (b : Fin 4) (k j : Fin 1024) (ho : off = ![b.val, k.val, 0]) :
    View.readAt (Elt Ideal) arg4.view (Rect.unit (s := S4x1024x1024) off S1x1x1024.size inb).toLoadRect X (ix3 0 0 j)
      = arg4.view.read (Elt Ideal) X (ix3 b k j) := by
  subst ho
  refine congrArg (arg4.view.read (Elt Ideal) X) (funext fun a => Fin.ext ?_)
  refine (ValueKit.rect_emb_unit_val ..).trans ?_
  fin_cases a <;> simp [ix3]

theorem trips_eq : k1_t1_loop.trips = 1000 := by decide +kernel

/-- The masks before round `k`. -/
theorem masks_at (c : Dev nD) (i : grid1.Coords) (arg1 : Memref sig .tc .vmem S4x8x1024 .f32) (harg1 : arg1.IsWhole)
    (arg2 : Memref sig .tc .vmem S4x1024x128 .f32) (harg2 : arg2.IsWhole) (arg3 : Memref sig .tc .vmem S4x304x128 .f32)
    (harg3 : arg3.IsWhole) (arg4 : Memref sig .tc .vmem S4x1024x1024 .f32) (harg4 : arg4.IsWhole) (x0 : Vec Ideal S4x8x1024 .f32)
    (x1 : Vec Ideal S4x1024x128 .f32) (T : Fin 4 → ℕ → Box)
    (h0 : ∀ (b : Fin 4) (k : Fin 6) (j : Fin 1024), x0 (ix3 b (k.castLE (by decide)) j) = T b j k)
    (h1 : ∀ (b : Fin 4) (j : Fin 1024) (k : Fin 6), x1 (ix3 b j (k.castLE (by decide))) = T b j k) :
    ∀ (k : ℕ), k ≤ 1000 → ∀ (b : Fin 4) (j : Fin 1024),
      masks c i arg1 harg1 arg2 harg2 arg3 harg3 arg4 harg4 x0 x1
        (arg4.view.writes (Elt Ideal) arg4.view.junk (kernelRun1_A.sl.HS0_32 c arg1 harg1 arg2 harg2 x0 x1))
        (masks0 (ldR arg1 harg1 x0)) k (ix2 b j) = if keep (T b) k j then (1 : EReal) else 0
  | 0, _, b, j => by
    refine (masks0_at _ T (fun b k j => ?_) b j)
    rw [ldR_at]; exact h0 b k j
  | k + 1, hk, b, j => by
    have hk' : k < k1_t1_loop.trips := by rw [trips_eq]; omega
    have hiv : (Scf.iv 0#32 1#32 k).toNat = k := WordArith.toNat_iv_zero_one k (by omega)
    have hix : (Scalar.indexCast (Scf.iv 0#32 1#32 k) : Index).toNat = k := hiv
    refine (congrFun (trip_eq c i arg1 harg1 arg2 harg2 arg3 harg3 arg4 harg4 x0 x1 _ _ ⟨k, hk'⟩) _).trans ?_
    refine round_at ⟨k, hk'⟩ (by simpa using hk) _ ![_, _, _, _] T
      (masks_at c i arg1 harg1 arg2 harg2 arg3 harg3 arg4 harg4 x0 x1 T h0 h1 k (by omega)) (fun b j => ?_) b j
    have hkt : k < 1024 := by omega
    fin_cases b
    · refine (readO_at arg4 _ _ _ 0 ⟨k, hkt⟩ j ?_).trans (table_at c arg1 harg1 arg2 harg2 arg4 x0 x1 T h0 h1 0 ⟨k, hkt⟩ j)
      exact congrArg (fun n => ![0, n, 0]) hix
    · refine (readO_at arg4 _ _ _ 1 ⟨k, hkt⟩ j ?_).trans (table_at c arg1 harg1 arg2 harg2 arg4 x0 x1 T h0 h1 1 ⟨k, hkt⟩ j)
      exact congrArg (fun n => ![1, n, 0]) hix
    · refine (readO_at arg4 _ _ _ 2 ⟨k, hkt⟩ j ?_).trans (table_at c arg1 harg1 arg2 harg2 arg4 x0 x1 T h0 h1 2 ⟨k, hkt⟩ j)
      exact congrArg (fun n => ![2, n, 0]) hix
    · refine (readO_at arg4 _ _ _ 3 ⟨k, hkt⟩ j ?_).trans (table_at c arg1 harg1 arg2 harg2 arg4 x0 x1 T h0 h1 3 ⟨k, hkt⟩ j)
      exact congrArg (fun n => ![3, n, 0]) hix

/-- One batch of the masks. -/
theorem slice_at (m : FVec Ideal S4x1024 .f32) (b : Fin 4) (j : Fin 1024) :
    extractStridedSlice S1x1024 ![b.val, 0] m (slcM b) (ix2 0 j) = m (ix2 b j) := by
  refine congrArg m (funext fun a => Fin.ext ?_)
  fin_cases a <;> simp [ix2]

/-- The result's stores read back. -/
theorem stores_at (pay : Fin 4 → FVec Ideal S1x304x128 .f32) (b : Fin 4) (p : Fin 304) (l : Fin 128) :
    VO1_2.read (Elt Ideal) (VO1_2.writes (Elt Ideal) VO1_2.junk ([3, 2, 1, 0].map fun b : Fin 4 =>
      (⟨Rect.unit ![b.val, 0, 0] S1x304x128.size (inbO b), pay b⟩ : View.Piece (Elt Ideal) S4x304x128 .f32))) (ix3 b p l)
      = pay b (ix3 0 p l) := by
  refine View.read_writes_apply_of_pieces (Val := Elt Ideal) VO1_2 _ (fun y => pay (y 0) (ix3 0 (y 1) (y 2))) _ ?_ (ix3 b p l) ?_
  · intro q hq x
    obtain ⟨b', -, rfl⟩ := List.mem_map.1 hq
    obtain ⟨z, p', l, rfl⟩ : ∃ (z : Fin 1) (p' : Fin 304) (l : Fin 128), x = ix3 z p' l := ⟨x 0, x 1, x 2, eq_ix3 x⟩
    obtain rfl : z = 0 := Subsingleton.elim _ _
    have e0 : (Rect.unit (s := S4x304x128) ![b'.val, 0, 0] S1x304x128.size (inbO b')).emb (ix3 0 p' l) 0 = b' :=
      Fin.ext (ValueKit.rect_emb_unit_val _ _ (inbO b') _ _)
    have e1 : (Rect.unit (s := S4x304x128) ![b'.val, 0, 0] S1x304x128.size (inbO b')).emb (ix3 0 p' l) 1 = p' :=
      Fin.ext ((ValueKit.rect_emb_unit_val _ _ (inbO b') _ _).trans (Nat.zero_add _))
    have e2 : (Rect.unit (s := S4x304x128) ![b'.val, 0, 0] S1x304x128.size (inbO b')).emb (ix3 0 p' l) 2 = l :=
      Fin.ext ((ValueKit.rect_emb_unit_val _ _ (inbO b') _ _).trans (Nat.zero_add _))
    dsimp only
    rw [e0, e1, e2]
  · refine ⟨_, List.mem_map.2 ⟨b, (by decide : ∀ b : Fin 4, b ∈ ([3, 2, 1, 0] : List (Fin 4))) b, rfl⟩, ?_⟩
    refine (Rect.mem_set_unit (inb := inbO b)).2 fun a => ?_
    fin_cases a <;> simp [ix3, S1x304x128]

/-- What the second launch leaves. -/
theorem out_at (c : Dev nD) (i : grid1.Coords) (arg1 : Memref sig .tc .vmem S4x8x1024 .f32) (harg1 : arg1.IsWhole)
    (arg2 : Memref sig .tc .vmem S4x1024x128 .f32) (harg2 : arg2.IsWhole) (arg3 : Memref sig .tc .vmem S4x304x128 .f32)
    (harg3 : arg3.IsWhole) (arg4 : Memref sig .tc .vmem S4x1024x1024 .f32) (harg4 : arg4.IsWhole) (x0 : Vec Ideal S4x8x1024 .f32)
    (x1 : Vec Ideal S4x1024x128 .f32) (T : Fin 4 → ℕ → Box)
    (h0 : ∀ (b : Fin 4) (k : Fin 6) (j : Fin 1024), x0 (ix3 b (k.castLE (by decide)) j) = T b j k)
    (h1 : ∀ (b : Fin 4) (j : Fin 1024) (k : Fin 6), x1 (ix3 b j (k.castLE (by decide))) = T b j k)
    (b : Fin 4) (p : Fin 304) (k : Fin 6) :
    out1_A_2 c i arg1 harg1 arg2 harg2 arg3 harg3 arg4 harg4 x0 x1 (ix3 b p (k.castLE (by decide)))
      = out (T b) (keep (T b) 1000) 1024 p k := by
  have hm := masks_at c i arg1 harg1 arg2 harg2 arg3 harg3 arg4 harg4 x0 x1 T h0 h1 1000 (le_refl _)
  unfold out1_A_2
  rw [outs_eq, trips_eq]
  refine (stores_at _ b p _).trans (compact_at _ _ _ _ (fun j => ?_) (fun j k => ?_) p k)
  · exact (slice_at _ b j).trans (hm b j)
  · rw [ldB_at]; exact h1 b j k

end Cert.K1

end

end
-- ==== Proof.KerArr.lean ====
module

public import proofs.«01_k».proof.Proof.K0Val
public import proofs.«01_k».proof.Proof.K1Val
public import proofs.«01_k».proof.Proof.Gen.KernelIdeal.Frame
public import Idealize.ShloMosaic.Lib.Pipeline.ValueKit
public import Idealize.ShloMosaic.Lib.StableHlo.RunRead

/-! # The launches' result arrays

What the two launches leave in their result arrays, in terms of the arrays they are given. -/

@[expose] public section

set_option maxRecDepth 16384

noncomputable section

namespace Cert.KerArr

open Idealize.ShloMosaic Idealize.ShloMosaic.TcCoe Idealize.ShloMosaic.Tactic
open Cert.KernelIdeal Cert.KernelIdeal.Gen
open Cert.Spec
open scoped Classical

variable (m : (ℓ : Loc nD τ sig) → Buf (Elt Ideal) ℓ) (ρ : Dev nD → PrngReg)

/-- The scores and deltas, as the first launch is given them. -/
abbrev inD (c : Dev nD) : Vec Ideal S4x672x2500 .f32 := W1 m ρ c (Proc.devRef .tc main_v0)
/-- The anchors, as the first launch is given them. -/
abbrev inA (c : Dev nD) : Vec Ideal S4x32x2500 .f32 := W1 m ρ c (Proc.devRef .tc main_v1)

/-- A grid point as a batch. -/
abbrev batch (t : Fin cfg0.N) : Fin 4 := ⟨t.val, lt_of_lt_of_eq t.isLt (by decide +kernel : cfg0.N = 4)⟩

/-- Every window's block index is the batch. -/
theorem index_eq : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) := by
  decide +kernel

/-- The first window's block. -/
theorem blk0_at (c : Dev nD) (t : Fin cfg0.N) (r : Fin 672) (j : Fin 2500) :
    (iblk0 (V1 m ρ) c 0 t : Vec Ideal S1x672x2500 .f32) (ix3 0 r j) = inD m ρ c (ix3 (batch t) r j) := by
  obtain ⟨⟨h0, h1, h2⟩, -, -⟩ := index_eq t
  refine congrArg (inD m ρ c) (funext fun a => Fin.ext ?_)
  fin_cases a <;> blk_simp <;> simp [ix3, h0, h1, h2]

/-- The second window's block. -/
theorem blk1_at (c : Dev nD) (t : Fin cfg0.N) (r : Fin 32) (j : Fin 2500) :
    (iblk0 (V1 m ρ) c 1 t : Vec Ideal S1x32x2500 .f32) (ix3 0 r j) = inA m ρ c (ix3 (batch t) r j) := by
  obtain ⟨-, ⟨h0, h1, h2⟩, -⟩ := index_eq t
  refine congrArg (inA m ρ c) (funext fun a => Fin.ext ?_)
  fin_cases a <;> blk_simp <;> simp [ix3, h0, h1, h2]

/-- The first launch's array. -/
theorem first_at (c : Dev nD) (b : Fin 4) (r : Fin 48) (j : Fin 2500) :
    (W2 m ρ c (Proc.devRef .tc main_v2) : Vec Ideal S4x48x2500 .f32) (ix3 b r j)
      = decode (fun k => inD m ρ c (ix3 b ⟨84 * (r.val % 8) + 4 + k.val, by omega⟩ j))
          (fun k => inD m ρ c (ix3 b ⟨84 * (r.val % 8) + k.val, by omega⟩ j))
          (fun k => inA m ρ c (ix3 b ⟨4 * (r.val % 8) + k.val, by omega⟩ j)) (K0.numberOf r) := by
  have h := W2_arr m ρ c 2
  have e : (W2 m ρ c (Proc.devRef .tc main_v2) : Vec Ideal S4x48x2500 .f32)
      = fun y => decode (fun k => inD m ρ c (ix3 (y 0) ⟨84 * ((y 1).val % 8) + 4 + k.val, by omega⟩ (y 2)))
          (fun k => inD m ρ c (ix3 (y 0) ⟨84 * ((y 1).val % 8) + k.val, by omega⟩ (y 2)))
          (fun k => inA m ρ c (ix3 (y 0) ⟨4 * ((y 1).val % 8) + k.val, by omega⟩ (y 2))) (K0.numberOf (y 1)) := by
    refine h.trans ?_
    refine (dat0 (V1 m ρ) c).arrAt_eq_of_covers 2 _ (by decide +kernel) fun t hf y => ?_
    obtain ⟨-, -, h0, h1, h2⟩ := index_eq t
    obtain ⟨z, r, j, rfl⟩ : ∃ (z : Fin 1) (r : Fin 48) (j : Fin 2500), y = ix3 z r j := ⟨y 0, y 1, y 2, eq_ix3 y⟩
    obtain rfl : z = 0 := Subsingleton.elim _ _
    have e0 : ((cfg0.win 2).blk t).view.emb (ix3 0 r j) 0 = batch t := Fin.ext (by blk_simp; simp [ix3, h0])
    have e1 : ((cfg0.win 2).blk t).view.emb (ix3 0 r j) 1 = r := Fin.ext (by blk_simp; simp [ix3, h1])
    have e2 : ((cfg0.win 2).blk t).view.emb (ix3 0 r j) 2 = j := Fin.ext (by blk_simp; simp [ix3, h2])
    have gen : ∀ (b : Fin 4) (r' : Fin 48) (j' : Fin 2500), b = batch t → r' = r → j' = j →
        out0_2 (iblk0 (V1 m ρ) c 0 t) (iblk0 (V1 m ρ) c 1 t) (ix3 0 r j)
          = decode (fun k => inD m ρ c (ix3 b ⟨84 * (r'.val % 8) + 4 + k.val, by omega⟩ j'))
            (fun k => inD m ρ c (ix3 b ⟨84 * (r'.val % 8) + k.val, by omega⟩ j'))
            (fun k => inA m ρ c (ix3 b ⟨4 * (r'.val % 8) + k.val, by omega⟩ j')) (K0.numberOf r') := by
      rintro _ _ _ rfl rfl rfl
      rw [K0.out_at]
      simp only [blk0_at, blk1_at]
    refine Eq.trans ?_ (gen _ _ _ e0 e1 e2)
    blk_simp
    rw [after0_2]
  exact congrFun e (ix3 b r j)

/-- The first table, as the second launch is given it. -/
abbrev inR (c : Dev nD) : Vec Ideal S4x8x1024 .f32 := W9 m ρ c (Proc.devRef .tc main_v18)
/-- The second table, as the second launch is given it. -/
abbrev inC (c : Dev nD) : Vec Ideal S4x1024x128 .f32 := W9 m ρ c (Proc.devRef .tc main_v24)

/-- The second launch's windows are its arrays. -/
theorem index1_eq : (win1_0.index t1_0 0 = 0 ∧ win1_0.index t1_0 1 = 0 ∧ win1_0.index t1_0 2 = 0)
    ∧ (win1_1.index t1_0 0 = 0 ∧ win1_1.index t1_0 1 = 0 ∧ win1_1.index t1_0 2 = 0) := by
  decide +kernel

/-- The first table, as the body reads it. -/
theorem blkR_at (c : Dev nD) (b : Fin 4) (k : Fin 8) (j : Fin 1024) :
    (iblk1 (V9 m ρ) c 0 t1_0 : Vec Ideal S4x8x1024 .f32) (ix3 b k j) = inR m ρ c (ix3 b k j) := by
  obtain ⟨⟨h0, h1, h2⟩, -⟩ := index1_eq
  have e : ∀ a, (((cfg1.win 0).blk t1_0).view.emb (ix3 b k j) a).val = ((ix3 b k j : S4x8x1024.Idx) a).val := fun a => by
    fin_cases a <;> blk_simp <;> simp only [h0, h1, h2, Nat.zero_mul, Nat.zero_add] <;> rfl
  exact congrArg (inR m ρ c) (funext fun a => Fin.ext (e a))

/-- The second table, as the body reads it. -/
theorem blkC_at (c : Dev nD) (b : Fin 4) (j : Fin 1024) (k : Fin 128) :
    (iblk1 (V9 m ρ) c 1 t1_0 : Vec Ideal S4x1024x128 .f32) (ix3 b j k) = inC m ρ c (ix3 b j k) := by
  obtain ⟨-, h0, h1, h2⟩ := index1_eq
  have e : ∀ a, (((cfg1.win 1).blk t1_0).view.emb (ix3 b j k) a).val = ((ix3 b j k : S4x1024x128.Idx) a).val := fun a => by
    fin_cases a <;> blk_simp <;> simp only [h0, h1, h2, Nat.zero_mul, Nat.zero_add] <;> rfl
  exact congrArg (inC m ρ c) (funext fun a => Fin.ext (e a))

/-- The second launch's array. -/
theorem second_at (c : Dev nD) (T : Fin 4 → ℕ → Box)
    (h0 : ∀ (b : Fin 4) (k : Fin 6) (j : Fin 1024), inR m ρ c (ix3 b (k.castLE (by decide)) j) = T b j k)
    (h1 : ∀ (b : Fin 4) (j : Fin 1024) (k : Fin 6), inC m ρ c (ix3 b j (k.castLE (by decide))) = T b j k)
    (b : Fin 4) (p : Fin 304) (k : Fin 6) :
    (W10 m ρ c (Proc.devRef .tc main_v25) : Vec Ideal S4x304x128 .f32) (ix3 b p (k.castLE (by decide)))
      = out (T b) (keep (T b) 1000) 1024 p k := by
  have e : (W10 m ρ c (Proc.devRef .tc main_v25) : Vec Ideal S4x304x128 .f32) = outsAt1 (V9 m ρ) c t1_0 := by
    refine (W10_arr m ρ c 2).trans ?_
    refine (dat1 (V9 m ρ) c).arrAt_eq_of_after_last 2 t1_0 (by decide +kernel) _ fun j => ?_
    rw [after1_2]
    rfl
  rw [e]
  refine K1.out_at c _ _ _ _ _ _ _ _ _ _ _ T (fun b k j => ?_) (fun b j k => ?_) b p k
  · exact (blkR_at m ρ c b _ j).trans (h0 b k j)
  · exact (blkC_at m ρ c b j _).trans (h1 b j k)

/-- The result. -/
theorem result_at (c : Dev nD) (b : Fin 4) (p : Fin 300) (k : Fin 6) :
    (W11 m ρ c (Proc.devRef .tc main_v26) : Vec Ideal S4x300x6 .f32) (ix3 b p k)
      = (W10 m ρ c (Proc.devRef .tc main_v25) : Vec Ideal S4x304x128 .f32) (ix3 b (p.castLE (by decide)) (k.castLE (by decide))) := by
  have e : (W11 m ρ c (Proc.devRef .tc main_v26) : Vec Ideal S4x300x6 .f32)
      = extractStridedSlice S4x300x6 ![0, 0, 0] (W10 m ρ c (Proc.devRef .tc main_v25) : Vec Ideal S4x304x128 .f32) slices_S4x304x128_S4x300x6_0_0_0 := by
    unfold W11 hostOps2
    after_results
  rw [e]
  pointwise
  rfl

end Cert.KerArr

end

end
-- ==== Proof.Move.lean ====
module

public import proofs.«01_k».proof.Proof.Words
public import proofs.«01_k».proof.KernelIdeal

/-! # Tables read and written by place

A scatter that overwrites holds, at each place, the update that lands there, and the old entry where none does. A gather
whose start is a number inside the table reads at that number. The places a sort leaves behind are numbers inside the
table. -/

@[expose] public section

set_option maxRecDepth 16384

noncomputable section

namespace Cert.Move

open Idealize.ShloMosaic

open scoped Classical in
/-- Overwrites one after the other: where the writes that land at `i` all write `w`, the place holds `w` if any lands. -/
theorem writes_at {N ι α : Type} (lands : N → Prop) (v : N → α) (i : ι) (w : α) (f : (ι → α) → N → ι → α)
    (hin : ∀ r n, lands n → f r n i = v n) (hout : ∀ r n, ¬ lands n → f r n i = r i) (L : List N)
    (h : ∀ n ∈ L, lands n → v n = w) (x : ι → α) : L.foldl f x i = if ∃ n ∈ L, lands n then w else x i := by
  induction L generalizing x with
  | nil => simp
  | cons a L ih =>
    rw [List.foldl_cons, ih (fun n hn => h n (List.mem_cons_of_mem _ hn))]
    by_cases hL : ∃ n ∈ L, lands n
    · rw [if_pos hL, if_pos]
      obtain ⟨n, hn, e⟩ := hL
      exact ⟨n, List.mem_cons_of_mem _ hn, e⟩
    · rw [if_neg hL]
      by_cases ha : lands a
      · rw [if_pos ⟨a, List.mem_cons_self, ha⟩, hin x a ha, h a List.mem_cons_self ha]
      · rw [hout x a ha, if_neg]
        rintro ⟨n, hn, e⟩
        rcases List.mem_cons.1 hn with rfl | hn
        · exact ha e
        · exact hL ⟨n, hn, e⟩

variable {α : Type} {w : Nat} {s si u : Shape}

open scoped Classical in
/-- A scatter that overwrites, at a place where all updates that land have the value `v`. -/
theorem scatter_at (d : ScatterDims s si u) (x : s.Idx → α) (idx : IVec si w) (upd : u.Idx → α) (i : s.Idx) (v : α)
    (h : ∀ j, d.resultIdx? j idx = some i → upd j = v) :
    Host.scatter d (fun _ b => b) x idx upd i = if ∃ j, d.resultIdx? j idx = some i then v else x i := by
  unfold Host.scatter
  rw [writes_at (fun n => d.resultIdx? (u.rowMajor.symm n) idx = some i) (fun n => upd (u.rowMajor.symm n)) i v _ ?_ ?_ _
    (fun n _ e => h _ e) x]
  · by_cases hj : ∃ j, d.resultIdx? j idx = some i
    · rw [if_pos hj]
      obtain ⟨j, e⟩ := hj
      exact if_pos ⟨u.rowMajor j, List.mem_finRange _, by rw [Equiv.symm_apply_apply]; exact e⟩
    · rw [if_neg hj]
      exact if_neg fun ⟨n, _, e⟩ => hj ⟨_, e⟩
  · intro r n e
    simp only [e, if_true]
  · intro r n e
    generalize d.resultIdx? (u.rowMajor.symm n) idx = o at e
    cases o with
    | none => rfl
    | some i' => exact if_neg fun (e2 : i = i') => e (congrArg some e2.symm)

/-- A place one update lands at holds that update's value, if every update landing there has the same. -/
theorem scatter_hit (d : ScatterDims s si u) (x : s.Idx → α) (idx : IVec si w) (upd : u.Idx → α) (i : s.Idx) (j : u.Idx)
    (hj : d.resultIdx? j idx = some i) (h : ∀ j', d.resultIdx? j' idx = some i → upd j' = upd j) :
    Host.scatter d (fun _ b => b) x idx upd i = upd j :=
  (scatter_at d x idx upd i (upd j) h).trans (if_pos ⟨j, hj⟩)

/-- A place no update lands at keeps its entry. -/
theorem scatter_miss (d : ScatterDims s si u) (x : s.Idx → α) (idx : IVec si w) (upd : u.Idx → α) (i : s.Idx)
    (h : ∀ j, d.resultIdx? j idx ≠ some i) : Host.scatter d (fun _ b => b) x idx upd i = x i :=
  (scatter_at d x idx upd i (x i) (fun j e => absurd e (h j))).trans (if_neg fun ⟨j, e⟩ => h j e)

/-- Where an update lands, axis by axis. -/
theorem resultIdx?_iff (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro e a
    split at e
    · rename_i h
      have := congrFun (Option.some.inj e) a
      rw [← this]
      have := (h a).1
      simp only [Int.toNat_of_nonneg this]
    · exact absurd e (by simp)
  · intro h
    have h' : ∀ a, 0 ≤ d.start j idx a + (d.window j a : ℤ) ∧ d.start j idx a + (d.window j a : ℤ) < s.size a := fun a => by
      rw [h a]
      exact ⟨Int.natCast_nonneg _, by exact_mod_cast (i a).isLt⟩
    rw [dif_pos h']
    congr 1
    funext a
    apply Fin.ext
    have := h a
    simp only [this, Int.toNat_natCast]

/-- A gather reads the place its start, batch and offset coordinates add to. -/
theorem gather_at {t : Shape} (d : GatherDims s si t) (x : s.Idx → α) (idx : IVec si w) (j : t.Idx) (i : s.Idx)
    (h : ∀ a, d.start j idx a + d.batchCoord j a + d.offCoord j a = (i a).val) : Host.gather d x idx j = x i := by
  unfold Host.gather
  exact congrArg x (funext fun a => Fin.ext (h a))

/-- A number that is not negative is not wrapped around. -/
theorem wrap_word {n : ℕ} (hn : n < 2 ^ 31) (y : BitVec 32) :
    Scalar.select (IntOp.cmpi CmpIPredicate.slt (BitVec.ofNat 32 n) 0#32) y (BitVec.ofNat 32 n) = BitVec.ofNat 32 n := by
  rw [Words.select_eq, if_neg]
  rw [show (0#32 : BitVec 32) = BitVec.ofNat 32 0 from rfl, Words.slt_bit hn (by omega)]
  omega

/-- A number below a bound passes the range test. -/
theorem inside_word {n c : ℕ} (hn : n ≤ c) (hc : c < 2 ^ 31) :
    IntOp.andi (IntOp.cmpi CmpIPredicate.sge (BitVec.ofNat 32 n) 0#32) (IntOp.cmpi CmpIPredicate.sle (BitVec.ofNat 32 n) (BitVec.ofNat 32 c)) = 1#1 := by
  rw [Words.and_iff]
  constructor
  · exact (Words.sle_bit (a := 0) (b := n) (by omega) (by omega)).2 (by omega)
  · exact (Words.sle_bit (by omega) hc).2 hn

/-- The places of a sorted row's first entries are numbers inside the row. -/
theorem topK_place (x : FVec Ideal ⟨2, ![4, 20000]⟩ .f32) (gt : Ideal .f32 → Ideal .f32 → BitVec 1)
    (h : (⟨2, ![4, 20000]⟩ : Shape).Slices (fun _ => 0) ⟨2, ![4, 1000]⟩) (i : (⟨2, ![4, 1000]⟩ : Shape).Idx) :
    ∃ n : Fin 20000, (Host.topK ⟨2, ![4, 1000]⟩ 1 gt x h).2 i = BitVec.ofNat 32 n.val := by
  unfold Host.topK Host.sort2
  exact ⟨_, rfl⟩

end Cert.Move
end
end
-- ==== Proof.Table.lean ====
module

public import proofs.«01_k».proof.Proof.Best
public import proofs.«01_k».proof.Proof.Move

/-! # The table of chosen boxes

The boxes of all anchors, their scores, the order a sort by score leaves, and the table of the first thousand boxes in
that order. Both programs build this table from the same two inputs. -/

@[expose] public section

set_option maxRecDepth 16384

noncomputable section

namespace Cert.Spec

open Idealize.ShloMosaic

/-- The deltas and scores, as given. -/
abbrev Deltas := FVec Ideal ⟨4, ![4, 672, 50, 50]⟩ .f32
/-- The anchors, as given. -/
abbrev Anchors := FVec Ideal ⟨4, ![4, 32, 50, 50]⟩ .f32

variable (x0 : Deltas) (x1 : Anchors)

/-- One anchor's decoded box: the anchor number counts the eight shapes of each cell, cell after cell. -/
def boxAt (b : Fin 4) (n : Fin 20000) : Box :=
  decode (fun k => x0 (ix4 b ⟨84 * (n.val % 8) + 4 + k.val, by omega⟩ ⟨n.val / 8 / 50, by omega⟩ ⟨n.val / 8 % 50, by omega⟩))
    (fun k => x0 (ix4 b ⟨84 * (n.val % 8) + k.val, by omega⟩ ⟨n.val / 8 / 50, by omega⟩ ⟨n.val / 8 % 50, by omega⟩))
    (fun k => x1 (ix4 b ⟨4 * (n.val % 8) + k.val, by omega⟩ ⟨n.val / 8 / 50, by omega⟩ ⟨n.val / 8 % 50, by omega⟩))

/-- The scores of all anchors. -/
def scores : FVec Ideal ⟨2, ![4, 20000]⟩ .f32 := fun y => boxAt x0 x1 (y 0) (y 1) 5

/-- The anchor in a place of the order by score. -/
def place (b : Fin 4) (j : Fin 1000) : Fin 20000 :=
  (Move.topK_place (scores x0 x1) (FloatOps.cmpfTotal .gt) ⟨rfl, by decide⟩ (ix2 b j)).choose

theorem place_eq (b : Fin 4) (j : Fin 1000) (h : (⟨2, ![4, 20000]⟩ : Shape).Slices (fun _ => 0) ⟨2, ![4, 1000]⟩) :
    (Host.topK ⟨2, ![4, 1000]⟩ 1 (FloatOps.cmpfTotal .gt) (scores x0 x1) h).2 (ix2 b j) = BitVec.ofNat 32 (place x0 x1 b j).val :=
  (Move.topK_place (scores x0 x1) (FloatOps.cmpfTotal .gt) ⟨rfl, by decide⟩ (ix2 b j)).choose_spec

/-- The first thousand boxes in that order, then empty ones. -/
def table (b : Fin 4) : ℕ → Box := fun j k => if h : j < 1000 then boxAt x0 x1 b (place x0 x1 b ⟨j, h⟩) k else 0

theorem table_in (b : Fin 4) (j : Fin 1000) (k : Fin 6) :
    table x0 x1 b j.val k = boxAt x0 x1 b (place x0 x1 b j) k := dif_pos j.isLt

theorem table_out (b : Fin 4) (j : ℕ) (h : 1000 ≤ j) (k : Fin 6) : table x0 x1 b j k = 0 := dif_neg (by omega)

end Cert.Spec
end
end
-- ==== Proof.KerHost.lean ====
module

public import proofs.«01_k».proof.Proof.KerArr
public import proofs.«01_k».proof.Proof.Table
public import Idealize.ShloMosaic.Lib.StableHlo.ReadAt
public import Idealize.ShloMosaic.Lib.Routing.Words
public import Idealize.ShloMosaic.Lib.Pointwise

/-! # Between the launches

The host sorts the scores, turns each chosen anchor's number into its place in the first launch's array, reads the box
there, and lays the boxes out for the second launch, once by rows and once by columns. -/

@[expose] public section

set_option maxRecDepth 16384

noncomputable section

namespace Cert.KerHost

open Idealize.ShloMosaic Idealize.ShloMosaic.TcCoe Idealize.ShloMosaic.Tactic
open Cert.KernelIdeal Cert.KernelIdeal.Gen
open Cert.Spec
open scoped Classical

variable (V : Valuation τ sig (Elt Ideal))

/-- The remainder by eight. -/
theorem rem_at (b : Fin 4) (j : Fin 1000) (n : ℕ) (hn : n < 20000)
    (h8 : (V (Proc.devRef .tc main_c) : IVec S_ 32) = constantI S_ 32 8#32)
    (h : (V (Proc.devRef .tc main_indices) : IVec S4x1000 32) (ix2 b j) = BitVec.ofNat 32 n) :
    (StableHlo.after hostOps1_1 V (Proc.devRef .tc main_v7) : IVec S4x1000 32) (ix2 b j) = BitVec.ofNat 32 (n % 8) := by
  unfold hostOps1_1
  after_reads_at
  rw [h8]
  have e8 : (constantI S_ 32 8#32 : IVec S_ 32) ix0 = 8#32 := rfl
  have e : Scalar.select (IntOp.cmpi CmpIPredicate.eq 8#32 0#32) 1#32 8#32 = BitVec.ofNat 32 8 := by decide
  simp only [id]
  rw [e8, e, h, Routing.remsi_word .host (by omega) (by omega) (by omega)]
  have hr : n % 8 < 8 := Nat.mod_lt _ (by omega)
  generalize n % 8 = r at hr
  interval_cases r <;> rfl

/-- The quotient by eight. -/
theorem quo_at (b : Fin 4) (j : Fin 1000) (n : ℕ) (hn : n < 20000)
    (h8 : (V (Proc.devRef .tc main_c_1) : IVec S_ 32) = constantI S_ 32 8#32)
    (h : (V (Proc.devRef .tc main_indices) : IVec S4x1000 32) (ix2 b j) = BitVec.ofNat 32 n) :
    (StableHlo.after hostOps1_3 V (Proc.devRef .tc main_v10) : IVec S4x1000 32) (ix2 b j) = BitVec.ofNat 32 (n / 8) := by
  unfold hostOps1_3
  after_reads_at
  rw [h8]
  have e8 : (constantI S_ 32 8#32 : IVec S_ 32) ix0 = BitVec.ofNat 32 8 := rfl
  simp only [id, e8, h]
  rw [Routing.remsi_word .host (by omega) (by omega) (by omega), Routing.divsi_word .host (by omega) (by omega) (by omega)]
  rw [Words.select_eq, if_neg]
  rw [Words.and_iff]
  rintro ⟨h1, h2⟩
  have hn0 : n ≠ 0 := by
    intro e
    rw [e] at h2
    exact absurd h2 (by decide)
  have hz : ¬ (BitVec.ofNat 32 n = 0) := fun e => hn0 ((Words.ofNat_inj (by omega) (by omega)).1 e)
  have hm : (BitVec.ofNat 32 n).msb = false := by
    rw [BitVec.msb_eq_decide, BitVec.toNat_ofNat, Nat.mod_eq_of_lt (by omega)]
    exact decide_eq_false (by omega)
  rw [if_neg hz, hm] at h1
  exact absurd h1 (by decide)

/-- The place in the first launch's array. -/
theorem spot_at (b : Fin 4) (j : Fin 1000) :
    (StableHlo.after hostOps1_4 V (Proc.devRef .tc main_v12) : IVec S4x1x1000 32) (ix3 b 0 j)
      = IntOp.addi ((V (Proc.devRef .tc main_v9) : IVec S4x1000 32) (ix2 b j)) ((V (Proc.devRef .tc main_v10) : IVec S4x1000 32) (ix2 b j)) := by
  unfold hostOps1_4
  after_reads_at

/-- The remainder's share of the place. -/
theorem share_at (b : Fin 4) (j : Fin 1000) :
    (StableHlo.after hostOps1_2 V (Proc.devRef .tc main_v9) : IVec S4x1000 32) (ix2 b j)
      = IntOp.muli ((V (Proc.devRef .tc main_v7) : IVec S4x1000 32) (ix2 b j)) 2500#32 := by
  unfold hostOps1_2
  after_reads_at

/-- The read of one box at its place. -/
theorem gather_box (x : Vec Ideal S4x6x20000 .f32) (idx : IVec S4x1000x1 32) (b : Fin 4) (k : Fin 6) (j : Fin 1000) (n : Fin 20000)
    (h : idx (ix3 b j 0) = BitVec.ofNat 32 n.val) :
    Host.gather gather_S4x6x20000_S4x1000x1_S4x6x1000_1_2_0_0_2_2_161 x idx (ix3 b k j) = x (ix3 b k n) := by
  refine Move.gather_at _ x idx _ _ fun a => ?_
  fin_cases a
  · show 0 + b.val + 0 = b.val
    omega
  · show 0 + 0 + k.val = k.val
    omega
  · have e : gather_S4x6x20000_S4x1000x1_S4x6x1000_1_2_0_0_2_2_161.siIdx (ix3 b k j) ⟨0, by decide⟩ = ix3 b j 0 :=
      funext fun a => by fin_cases a <;> rfl
    show min (idx (gather_S4x6x20000_S4x1000x1_S4x6x1000_1_2_0_0_2_2_161.siIdx (ix3 b k j) ⟨0, _⟩)).toInt.toNat (20000 - 1) + 0 + 0 = n.val
    rw [e, h, Words.toInt_ofNat (by omega), Int.toNat_natCast]
    omega

/-- The boxes read at their places. -/
theorem take_at (b : Fin 4) (k : Fin 6) (j : Fin 1000) (n : Fin 20000)
    (h : (V (Proc.devRef .tc main_v12) : IVec S4x1x1000 32) (ix3 b 0 j) = BitVec.ofNat 32 n.val) :
    (StableHlo.after hostOps1_5 V (Proc.devRef .tc main_v13) : Vec Ideal S4x6x1000 .f32) (ix3 b k j)
      = (V (Proc.devRef .tc main_v3) : Vec Ideal S4x6x20000 .f32) (ix3 b k n) := by
  unfold hostOps1_5
  after_reads_at
  rw [Finset.univ_unique, Finset.fold_singleton, h, Move.wrap_word (by omega),
    show (19999#32 : BitVec 32) = BitVec.ofNat 32 19999 from rfl, Move.inside_word (by omega) (by omega), Words.select_eq]
  refine (if_pos (by decide)).trans ?_
  refine gather_box _ _ b k j n ?_
  show Scalar.select (IntOp.cmpi CmpIPredicate.slt ((V (Proc.devRef .tc main_v12) : IVec S4x1x1000 32) (ix3 b 0 j)) 0#32) _
    ((V (Proc.devRef .tc main_v12) : IVec S4x1x1000 32) (ix3 b 0 j)) = _
  rw [h, Move.wrap_word (by omega)]

/-- The place both layouts start at: the first entry. -/
abbrev origin : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

theorem origin_at (i : S2.Idx) : origin i = 0#32 := by
  obtain ⟨p, rfl⟩ : ∃ p : Fin 2, i = ix1 p := ⟨i 0, eq_ix1 i⟩
  unfold origin
  fin_cases p <;> pointwise

theorem start_rows (u : S4x6x1000.Idx) (a : Fin 3) : scatter_S4x8x1024_S2_S4x6x1000_012_n_12_0.start u origin a = 0 := by
  unfold ScatterDims.start
  split
  · rw [origin_at]; rfl
  · rfl

theorem start_cols (u : S4x1000x6.Idx) (a : Fin 3) : scatter_S4x1024x128_S2_S4x1000x6_012_n_12_0.start u origin a = 0 := by
  unfold ScatterDims.start
  split
  · rw [origin_at]; rfl
  · rfl

theorem lands_rows (u : S4x6x1000.Idx) (i : S4x8x1024.Idx) :
    scatter_S4x8x1024_S2_S4x6x1000_012_n_12_0.resultIdx? u origin = some i ↔ ∀ a : Fin 3, (u a).val = (i a).val := by
  rw [Move.resultIdx?_iff]
  refine forall_congr' fun a => ?_
  have hw : scatter_S4x8x1024_S2_S4x6x1000_012_n_12_0.window u a = (u a).val := by fin_cases a <;> rfl
  rw [start_rows, hw]
  omega

theorem lands_cols (u : S4x1000x6.Idx) (i : S4x1024x128.Idx) :
    scatter_S4x1024x128_S2_S4x1000x6_012_n_12_0.resultIdx? u origin = some i ↔ ∀ a : Fin 3, (u a).val = (i a).val := by
  rw [Move.resultIdx?_iff]
  refine forall_congr' fun a => ?_
  have hw : scatter_S4x1024x128_S2_S4x1000x6_012_n_12_0.window u a = (u a).val := by fin_cases a <;> rfl
  rw [start_cols, hw]
  omega

/-- The chosen boxes, as the host holds them. -/
abbrev picked : Vec Ideal S4x6x1000 .f32 := V (Proc.devRef .tc main_v13)

/-- The boxes by rows. -/
theorem rows_at (b : Fin 4) (k : Fin 8) (j : Fin 1024) :
    (StableHlo.after hostOps1_6 V (Proc.devRef .tc main_v18) : Vec Ideal S4x8x1024 .f32) (ix3 b k j)
      = if h : k.val < 6 ∧ j.val < 1000 then (picked V (ix3 b ⟨k.val, h.1⟩ ⟨j.val, h.2⟩) : EReal) else 0 := by
  have e : (StableHlo.after hostOps1_6 V (Proc.devRef .tc main_v18) : Vec Ideal S4x8x1024 .f32)
      = Host.scatter scatter_S4x8x1024_S2_S4x6x1000_012_n_12_0 (fun _ b => b)
          (broadcastInDim S4x8x1024 ![] bcast_S_S4x8x1024 (constant (F := Ideal) S_ .f32 0x00000000#32)) origin (picked V) := by
    unfold hostOps1_6
    after_results
  rw [e]
  by_cases h : k.val < 6 ∧ j.val < 1000
  · rw [dif_pos h]
    refine Move.scatter_hit _ _ _ _ _ (ix3 b ⟨k.val, h.1⟩ ⟨j.val, h.2⟩) ((lands_rows _ _).2 fun a => by fin_cases a <;> rfl) ?_
    intro u hu
    have hu := (lands_rows _ _).1 hu
    exact congrArg (picked V) (funext fun a => Fin.ext (by rw [hu a]; fin_cases a <;> rfl))
  · rw [dif_neg h, Move.scatter_miss]
    · pointwise
    · intro u hu
      have hu := (lands_rows _ _).1 hu
      exact h ⟨(hu 1) ▸ (u 1).isLt, (hu 2) ▸ (u 2).isLt⟩

/-- The boxes by columns. -/
theorem cols_at (b : Fin 4) (j : Fin 1024) (k : Fin 128) :
    (StableHlo.after hostOps1_6 V (Proc.devRef .tc main_v24) : Vec Ideal S4x1024x128 .f32) (ix3 b j k)
      = if h : k.val < 6 ∧ j.val < 1000 then (picked V (ix3 b ⟨k.val, h.1⟩ ⟨j.val, h.2⟩) : EReal) else 0 := by
  have e : (StableHlo.after hostOps1_6 V (Proc.devRef .tc main_v24) : Vec Ideal S4x1024x128 .f32)
      = Host.scatter scatter_S4x1024x128_S2_S4x1000x6_012_n_12_0 (fun _ b => b)
          (broadcastInDim S4x1024x128 ![] bcast_S_S4x1024x128 (constant (F := Ideal) S_ .f32 0x00000000#32)) origin
          (transpose S4x1000x6 [0, 2, 1] (picked V) transposes_S4x6x1000_S4x1000x6_0_2_1) := by
    unfold hostOps1_6
    after_results
  rw [e]
  by_cases h : k.val < 6 ∧ j.val < 1000
  · rw [dif_pos h]
    refine (Move.scatter_hit _ _ _ _ _ (ix3 b ⟨j.val, h.2⟩ ⟨k.val, h.1⟩) ((lands_cols _ _).2 fun a => by fin_cases a <;> rfl) ?_).trans ?_
    · intro u hu
      have hu := (lands_cols _ _).1 hu
      exact congrArg (transpose S4x1000x6 [0, 2, 1] (picked V) transposes_S4x6x1000_S4x1000x6_0_2_1)
        (funext fun a => Fin.ext (by rw [hu a]; fin_cases a <;> rfl))
    · pointwise
  · rw [dif_neg h, Move.scatter_miss]
    · pointwise
    · intro u hu
      have hu := (lands_cols _ _).1 hu
      exact h ⟨(hu 2) ▸ (u 2).isLt, (hu 1) ▸ (u 1).isLt⟩

/-- The scores as the host sorts them. -/
abbrev sorted : FVec Ideal S4x20000 .f32 :=
  shapeCast S4x20000 (transpose S4x2500x8 [0, 2, 1] (extractStridedSlice S4x8x2500 ![0, 40, 0] (V (Proc.devRef .tc main_v2) : Vec Ideal S4x48x2500 .f32)
    slices_S4x48x2500_S4x8x2500_0_40_0) transposes_S4x8x2500_S4x2500x8_0_2_1) shapeCasts_S4x2500x8_S4x20000

theorem sorted_at (b : Fin 4) (n : Fin 20000) :
    sorted V (ix2 b n) = (V (Proc.devRef .tc main_v2) : Vec Ideal S4x48x2500 .f32) (ix3 b ⟨40 + n.val % 8, by omega⟩ ⟨n.val / 8, by omega⟩) := by
  unfold sorted
  pointwise

theorem indices_eq : (StableHlo.after hostOps1 V (Proc.devRef .tc main_indices) : IVec S4x1000 32)
    = (Host.topK S4x1000 1 (FloatOps.cmpfTotal (F := Ideal) (φ := .f32) .gt) (sorted V) sliceFits_S4x20000_S4x1000).2 := by
  unfold hostOps1
  after_results
  rfl

/-- The boxes, anchor shape by anchor shape. -/
theorem flat_at (b : Fin 4) (k : Fin 6) (n : Fin 20000) :
    (StableHlo.after hostOps1 V (Proc.devRef .tc main_v3) : Vec Ideal S4x6x20000 .f32) (ix3 b k n)
      = (V (Proc.devRef .tc main_v2) : Vec Ideal S4x48x2500 .f32) (ix3 b ⟨k.val * 8 + n.val / 2500, by omega⟩ ⟨n.val % 2500, by omega⟩) := by
  unfold hostOps1
  after_reads_at

theorem eight : (StableHlo.after hostOps1 V (Proc.devRef .tc main_c) : IVec S_ 32) = constantI S_ 32 8#32 := by
  unfold hostOps1
  after_results

theorem eight' : (StableHlo.after hostOps1_2 V (Proc.devRef .tc main_c_1) : IVec S_ 32) = constantI S_ 32 8#32 := by
  unfold hostOps1_2
  after_results

/-- The deltas as the first launch is given them. -/
theorem deltas_at (b : Fin 4) (r : Fin 672) (j : Fin 2500) :
    (StableHlo.after hostOps0 V (Proc.devRef .tc main_v0) : Vec Ideal S4x672x2500 .f32) (ix3 b r j)
      = (V (Proc.devRef .tc main_arg0) : Deltas) (ix4 b r ⟨j.val / 50, by omega⟩ ⟨j.val % 50, by omega⟩) := by
  unfold hostOps0
  after_reads_at

/-- The anchors as the first launch is given them. -/
theorem anchors_at (b : Fin 4) (r : Fin 32) (j : Fin 2500) :
    (StableHlo.after hostOps0 V (Proc.devRef .tc main_v1) : Vec Ideal S4x32x2500 .f32) (ix3 b r j)
      = (V (Proc.devRef .tc main_arg1) : Anchors) (ix4 b r ⟨j.val / 50, by omega⟩ ⟨j.val % 50, by omega⟩) := by
  unfold hostOps0
  after_reads_at

variable (m : (ℓ : Loc nD τ sig) → Buf (Elt Ideal) ℓ) (ρ : Dev nD → PrngReg)

/-- The deltas and scores. -/
abbrev argD (c : Dev nD) : Deltas := m ((c : Thread nD τ).loc main_arg0)
/-- The anchors. -/
abbrev argA (c : Dev nD) : Anchors := m ((c : Thread nD τ).loc main_arg1)

/-- The first launch's array holds the decoded boxes. -/
theorem boxes_at (c : Dev nD) (b : Fin 4) (k : Fin 6) (n : Fin 20000) :
    (W2 m ρ c (Proc.devRef .tc main_v2) : Vec Ideal S4x48x2500 .f32) (ix3 b ⟨k.val * 8 + n.val % 8, by omega⟩ ⟨n.val / 8, by omega⟩)
      = boxAt (argD m c) (argA m c) b n k := by
  rw [KerArr.first_at]
  have hr : (k.val * 8 + n.val % 8) % 8 = n.val % 8 := by omega
  have hk : K0.numberOf ⟨k.val * 8 + n.val % 8, by omega⟩ = k := Fin.ext (show (k.val * 8 + n.val % 8) / 8 = k.val by omega)
  rw [hk]
  unfold boxAt
  have hd : ∀ r : Fin 672, KerArr.inD m ρ c (ix3 b r ⟨n.val / 8, by omega⟩)
      = argD m c (ix4 b r ⟨n.val / 8 / 50, by omega⟩ ⟨n.val / 8 % 50, by omega⟩) := fun r => deltas_at _ b r _
  have ha : ∀ r : Fin 32, KerArr.inA m ρ c (ix3 b r ⟨n.val / 8, by omega⟩)
      = argA m c (ix4 b r ⟨n.val / 8 / 50, by omega⟩ ⟨n.val / 8 % 50, by omega⟩) := fun r => anchors_at _ b r _
  simp only [hd, ha, hr]

theorem sorted_eq (c : Dev nD) : sorted (W2 m ρ c) = scores (argD m c) (argA m c) := by
  funext y
  obtain ⟨b, n, rfl⟩ : ∃ (b : Fin 4) (n : Fin 20000), y = ix2 b n := ⟨y 0, y 1, eq_ix2 y⟩
  exact (sorted_at _ b n).trans (boxes_at m ρ c b 5 n)

/-- The chosen anchors' numbers. -/
theorem order_at (c : Dev nD) (b : Fin 4) (j : Fin 1000) :
    (W3 m ρ c (Proc.devRef .tc main_indices) : IVec S4x1000 32) (ix2 b j) = BitVec.ofNat 32 (place (argD m c) (argA m c) b j).val := by
  refine (congrFun (indices_eq (W2 m ρ c)) (ix2 b j)).trans ?_
  rw [sorted_eq]
  exact place_eq _ _ b j _

/-- The chosen anchors' places. -/
theorem spots_at (c : Dev nD) (b : Fin 4) (j : Fin 1000) (n : ℕ) (hn : n < 20000)
    (h : (W3 m ρ c (Proc.devRef .tc main_indices) : IVec S4x1000 32) (ix2 b j) = BitVec.ofNat 32 n) :
    (W7 m ρ c (Proc.devRef .tc main_v12) : IVec S4x1x1000 32) (ix3 b 0 j) = BitVec.ofNat 32 (n % 8 * 2500 + n / 8) := by
  have h5 : (W5 m ρ c (Proc.devRef .tc main_indices) : IVec S4x1000 32) (ix2 b j) = BitVec.ofNat 32 n := by
    rw [W5_of m ρ c main_indices (by decide), W4_of m ρ c main_indices (by decide)]
    exact h
  have h7 : (W4 m ρ c (Proc.devRef .tc main_v7) : IVec S4x1000 32) (ix2 b j) = BitVec.ofNat 32 (n % 8) :=
    rem_at (W3 m ρ c) b j n hn (eight _) h
  have h10 : (W6 m ρ c (Proc.devRef .tc main_v10) : IVec S4x1000 32) (ix2 b j) = BitVec.ofNat 32 (n / 8) :=
    quo_at (W5 m ρ c) b j n hn (eight' _) h5
  have h9 : (W6 m ρ c (Proc.devRef .tc main_v9) : IVec S4x1000 32) (ix2 b j) = IntOp.muli (BitVec.ofNat 32 (n % 8)) 2500#32 := by
    rw [W6_of m ρ c main_v9 (by decide)]
    exact (share_at (W4 m ρ c) b j).trans (by rw [h7])
  refine (spot_at (W6 m ρ c) b j).trans ?_
  rw [h9, h10]
  show BitVec.ofNat 32 (n % 8) * BitVec.ofNat 32 2500 + BitVec.ofNat 32 (n / 8) = _
  rw [BitVec.ofNat_add, BitVec.ofNat_mul]

/-- The chosen boxes, as the host holds them. -/
theorem picked_at (c : Dev nD) (b : Fin 4) (k : Fin 6) (j : Fin 1000) :
    picked (W8 m ρ c) (ix3 b k j) = table (argD m c) (argA m c) b j.val k := by
  have hp := (place (argD m c) (argA m c) b j).isLt
  rw [table_in]
  refine (take_at (W7 m ρ c) b k j ⟨(place (argD m c) (argA m c) b j).val % 8 * 2500 + (place (argD m c) (argA m c) b j).val / 8, by omega⟩
    (spots_at m ρ c b j _ hp (order_at m ρ c b j))).trans ?_
  rw [W7_of m ρ c main_v3 (by decide), W6_of m ρ c main_v3 (by decide), W5_of m ρ c main_v3 (by decide), W4_of m ρ c main_v3 (by decide)]
  refine (flat_at (W2 m ρ c) b k _).trans ?_
  refine Eq.trans ?_ (boxes_at m ρ c b k (place (argD m c) (argA m c) b j))
  refine congrArg₂ (fun r q => (W2 m ρ c (Proc.devRef .tc main_v2) : Vec Ideal S4x48x2500 .f32) (ix3 b r q)) (Fin.ext ?_) (Fin.ext ?_)
  all_goals
    dsimp only
    omega

/-- What the kernel program leaves in its result. -/
theorem result (c : Dev nD) (b : Fin 4) (p : Fin 300) (k : Fin 6) :
    (W11 m ρ c (Proc.devRef .tc main_v26) : Vec Ideal S4x300x6 .f32) (ix3 b p k)
      = out (table (argD m c) (argA m c) b) (keep (table (argD m c) (argA m c) b) 1000) 1000 p.val k := by
  rw [KerArr.result_at]
  refine (KerArr.second_at m ρ c (table (argD m c) (argA m c)) ?_ ?_ b (p.castLE (by decide)) k).trans ?_
  · intro b k j
    refine (rows_at (W8 m ρ c) b (k.castLE (by decide)) j).trans ?_
    by_cases h : j.val < 1000
    · rw [dif_pos ⟨k.isLt, h⟩]
      exact picked_at m ρ c b k ⟨j.val, h⟩
    · rw [dif_neg (fun h' => h h'.2), table_out _ _ _ _ (by omega)]
  · intro b j k
    refine (cols_at (W8 m ρ c) b j (k.castLE (by decide))).trans ?_
    by_cases h : j.val < 1000
    · rw [dif_pos ⟨k.isLt, h⟩]
      exact picked_at m ρ c b k ⟨j.val, h⟩
    · rw [dif_neg (fun h' => h h'.2), table_out _ _ _ _ (by omega)]
  · exact out_of_zero (by omega) (fun i hi k => table_out _ _ _ _ hi k)

end Cert.KerHost
end
end
-- ==== Proof.KerRun.lean ====
module

public import proofs.«01_k».proof.Proof.Gen.KernelIdeal.Frame

/-! # The run of the two launches, with its result

The set-up of the launches, its last state read at the result's buffer as well as at the arguments'. -/

@[expose] public section

set_option maxRecDepth 16384

noncomputable section

namespace Cert.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tokens the launches begin with. -/
abbrev tok : UR sig nD τ := initOf (Pipeline.cells cfgs cellOf_inj) (Pipeline.launchToks cfgs cellOf_inj)

set_option backward.isDefEq.respectTransparency.types false in
/-- Every execution ends with the result's buffer at the last boundary's contents and the arguments unchanged. -/
theorem run : θ_run defs (onTc (τ := τ) (main (F := F))) ⟨m, fun _ => 0, ρ⟩ (fun r => ∀ c : Dev nD,
      r.2.mem ((c.tc : Thread nD τ).loc main_v26) = W11 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := tok)
    (hu₀ := by
      iintro Hu; imodintro
      isplitl [Hu]
      · iapply (show (ownU tok : sProp 𝕄) ⊢ BI.own (emb₁ tok) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c => ⟨h c _ (mem_uc main_v26 (by decide)), (h c _ (mem_uc main_arg0 (by decide))).trans (W11_main_arg0 m ρ c),
      (h c _ (mem_uc main_arg1 (by decide))).trans (W11_main_arg1 m ρ c)⟩)

end Cert.KerRun

end

end
-- ==== Proof.RefPrep.lean ====
module

public import proofs.«01_k».proof.Proof.RefRun
public import proofs.«01_k».proof.Proof.Table
public import Idealize.ShloMosaic.Lib.StableHlo.ReadAt
public import Idealize.ShloMosaic.Lib.Pointwise

/-! # The reference's boxes

The reference decodes every anchor's box, sorts by score, and reads the first thousand boxes in that order. -/

@[expose] public section

set_option maxRecDepth 16384

noncomputable section

namespace Cert.RefVal

open Idealize.ShloMosaic Idealize.ShloMosaic.TcCoe Idealize.ShloMosaic.Tactic
open Idealize.ShloMosaic.StableHlo
open Cert.ReferenceIdeal Cert.ReferenceIdeal.Gen
open Cert.RefRun Cert.Spec
open scoped Classical

variable (V : Valuation τ sig (Elt Ideal))

/-- Reading an array at equal places. -/
theorem at_congr {n0 n1 n2 n3 : ℕ} {α : Type} (x : (⟨4, ![n0, n1, n2, n3]⟩ : Shape).Idx → α) {a a' : Fin n0} {b b' : Fin n1}
    {c c' : Fin n2} {d d' : Fin n3} (ha : a = a') (hb : b = b') (hc : c = c') (hd : d = d') :
    x (ix4 a b c d) = x (ix4 a' b' c' d') := by
  rw [ha, hb, hc, hd]

/-- The deltas, anchor by anchor. -/
theorem deltas_at (b : Fin 4) (n : Fin 20000) (k : Fin 4) :
    (after p0_0 V (Proc.devRef .tc main_v4) : Vec Ideal S4x20000x4 .f32) (ix3 b n k)
      = (V (Proc.devRef .tc main_arg0) : Deltas) (ix4 b ⟨84 * (n.val % 8) + k.val, by omega⟩ ⟨n.val / 8 / 50, by omega⟩ ⟨n.val / 8 % 50, by omega⟩) := by
  unfold p0_0
  after_reads_at
  exact at_congr _ rfl (Fin.ext (by dsimp only; omega)) (Fin.ext (by dsimp only; omega)) rfl

/-- The scores, anchor by anchor. -/
theorem scores_at (b : Fin 4) (n : Fin 20000) (k : Fin 80) :
    (after p0_0 V (Proc.devRef .tc main_v5) : Vec Ideal S4x20000x80 .f32) (ix3 b n k)
      = (V (Proc.devRef .tc main_arg0) : Deltas) (ix4 b ⟨84 * (n.val % 8) + 4 + k.val, by omega⟩ ⟨n.val / 8 / 50, by omega⟩ ⟨n.val / 8 % 50, by omega⟩) := by
  unfold p0_0
  after_reads_at
  exact at_congr _ rfl (Fin.ext (by dsimp only; omega)) (Fin.ext (by dsimp only; omega)) rfl

/-- The anchors. -/
theorem anchors_at (b : Fin 4) (n : Fin 20000) (k : Fin 4) :
    (after p0_0 V (Proc.devRef .tc main_v1) : Vec Ideal S4x20000x4 .f32) (ix3 b n k)
      = (V (Proc.devRef .tc main_arg1) : Anchors) (ix4 b ⟨4 * (n.val % 8) + k.val, by omega⟩ ⟨n.val / 8 / 50, by omega⟩ ⟨n.val / 8 % 50, by omega⟩) := by
  unfold p0_0
  after_reads_at
  exact at_congr _ rfl (Fin.ext (by dsimp only; omega)) (Fin.ext (by dsimp only; omega)) rfl

/-- The best score. -/
theorem best_at (b : Fin 4) (n : Fin 20000) :
    (after p0_0 V (Proc.devRef .tc main_v6) : Vec Ideal S4x20000 .f32) (ix2 b n)
      = top fun k => (after p0_0 V (Proc.devRef .tc main_v5) : Vec Ideal S4x20000x80 .f32) (ix3 b n k) := by
  unfold p0_0
  after_reads_at
  rfl

/-- The best class. -/
theorem class_at (b : Fin 4) (n : Fin 20000) :
    (after p0_1 V (Proc.devRef .tc main_v7) : IVec S4x20000 32) (ix2 b n)
      = BitVec.ofNat 32 (cls fun k => (V (Proc.devRef .tc main_v5) : Vec Ideal S4x20000x80 .f32) (ix3 b n k)) := by
  unfold p0_1
  after_reads_at
  rw [Ideal.argReduce_eq_reduce2, Host.reduce2_eq_foldl_fiber]
  refine fold_pairs _ _ fun p => ?_
  rw [Host.argReduceFiber, List.mem_map]
  constructor
  · rintro ⟨i, hi, rfl⟩
    obtain ⟨k, hk⟩ := (Shape.ReducesTo.fiber_r3_a2 _ _ _).1 (of_decide_eq_true (List.mem_filter.1 hi).2)
    rw [← hk]
    exact ⟨k, rfl⟩
  · rintro ⟨k, rfl⟩
    refine ⟨S4x20000x80.rowMajor (ix3 b n k), List.mem_filter.2 ⟨List.mem_finRange _, decide_eq_true ?_⟩, ?_⟩
    · rw [Equiv.symm_apply_apply]
      exact (Shape.ReducesTo.fiber_r3_a2 _ _ _).2 ⟨k, rfl⟩
    · rw [Equiv.symm_apply_apply]
      rfl

/-- The deltas, as the decoding reads them. -/
abbrev del (b : Fin 4) (n : Fin 20000) (k : Fin 4) : EReal := (V (Proc.devRef .tc main_v4) : Vec Ideal S4x20000x4 .f32) (ix3 b n k)
/-- The anchors, as the decoding reads them. -/
abbrev anc (b : Fin 4) (n : Fin 20000) (k : Fin 4) : EReal := (V (Proc.devRef .tc main_v1) : Vec Ideal S4x20000x4 .f32) (ix3 b n k)
/-- An anchor's number among all. -/
abbrev line (b : Fin 4) (n : Fin 20000) : Fin 80000 := ⟨b.val * 20000 + n.val, by omega⟩

theorem line_div (b : Fin 4) (n : Fin 20000) (h : (b.val * 20000 + n.val) / 20000 < 4) :
    (⟨(b.val * 20000 + n.val) / 20000, h⟩ : Fin 4) = b := Fin.ext (by dsimp only; omega)

theorem line_mod (b : Fin 4) (n : Fin 20000) (h : (b.val * 20000 + n.val) % 20000 < 20000) :
    (⟨(b.val * 20000 + n.val) % 20000, h⟩ : Fin 20000) = n := Fin.ext (by dsimp only; omega)

/-- Half a length that is given whole. -/
abbrev half (x : EReal) : EReal := Ideal.ofBits .f32 0x3F000000#32 * x

theorem mid_x (b : Fin 4) (n : Fin 20000) :
    (after p0_2 V (Proc.devRef .tc main_v44) : Vec Ideal S80000 .f32) (ix1 (line b n)) = mid (del V b n 0) (anc V b n 0) (anc V b n 2) := by
  unfold p0_2
  after_reads_at
  simp only [line_div, line_mod]
  rfl

theorem mid_y (b : Fin 4) (n : Fin 20000) :
    (after p0_2 V (Proc.devRef .tc main_v46) : Vec Ideal S80000 .f32) (ix1 (line b n)) = mid (del V b n 1) (anc V b n 1) (anc V b n 3) := by
  unfold p0_2
  after_reads_at
  simp only [line_div, line_mod]
  rfl

theorem reach_x (b : Fin 4) (n : Fin 20000) :
    half ((after p0_2 V (Proc.devRef .tc main_v48) : Vec Ideal S80000 .f32) (ix1 (line b n))) = reach (del V b n 2) (anc V b n 0) (anc V b n 2) := by
  unfold p0_2
  after_reads_at
  simp only [line_div, line_mod]
  rfl

theorem reach_y (b : Fin 4) (n : Fin 20000) :
    half ((after p0_2 V (Proc.devRef .tc main_v50) : Vec Ideal S80000 .f32) (ix1 (line b n))) = reach (del V b n 3) (anc V b n 1) (anc V b n 3) := by
  unfold p0_2
  after_reads_at
  simp only [line_div, line_mod]
  rfl

theorem low_x (b : Fin 4) (n : Fin 20000) :
    (after p0_2 V (Proc.devRef .tc main_v53) : Vec Ideal S80000 .f32) (ix1 (line b n))
      = mid (del V b n 0) (anc V b n 0) (anc V b n 2) - reach (del V b n 2) (anc V b n 0) (anc V b n 2) := by
  unfold p0_2
  after_reads_at
  simp only [line_div, line_mod]
  rfl

/-- The class as a number. -/
theorem class_num (b : Fin 4) (n : Fin 20000) :
    (after p0_2 V (Proc.devRef .tc main_v8) : Vec Ideal S4x20000 .f32) (ix2 b n)
      = FloatOps.sitofp (F := Ideal) .f32 ((V (Proc.devRef .tc main_v7) : IVec S4x20000 32) (ix2 b n)) := by
  unfold p0_2
  after_reads_at

/-- The four corners, side by side. -/
abbrev corners (v44 v46 v48 v50 v53 : FVec Ideal S80000 .f32) : FVec Ideal S80000x4 .f32 :=
  concatenate S80000x4 1
    [⟨S80000x1, broadcastInDim S80000x1 ![0] bcast_S80000_S80000x1_0 v53⟩,
     ⟨S80000x1, broadcastInDim S80000x1 ![0] bcast_S80000_S80000x1_0
       (subf v46 (mulf (broadcastInDim S80000 ![] bcast_S_S80000 (constant S_ .f32 0x3F000000#32)) v50))⟩,
     ⟨S80000x1, broadcastInDim S80000x1 ![0] bcast_S80000_S80000x1_0
       (addf v44 (mulf (broadcastInDim S80000 ![] bcast_S_S80000 (constant S_ .f32 0x3F000000#32)) v48))⟩,
     ⟨S80000x1, broadcastInDim S80000x1 ![0] bcast_S80000_S80000x1_0
       (addf v46 (mulf (broadcastInDim S80000 ![] bcast_S_S80000 (constant S_ .f32 0x3F000000#32)) v50))⟩]
    concatenates_S80000x1_S80000x1_S80000x1_S80000x1_S80000x4_d1

theorem corners_eq : (after p1_0 V (Proc.devRef .tc main_v68) : FVec Ideal S4x20000x4 .f32)
    = shapeCast S4x20000x4 (corners (V (Proc.devRef .tc main_v44)) (V (Proc.devRef .tc main_v46)) (V (Proc.devRef .tc main_v48))
        (V (Proc.devRef .tc main_v50)) (V (Proc.devRef .tc main_v53))) shapeCasts_S80000x4_S4x20000x4 := by
  unfold p1_0
  after_results
  rfl

/-- The decoded corners. -/
theorem corners_at (b : Fin 4) (n : Fin 20000) (k : Fin 4) :
    (after p1_0 (after p0_2 V) (Proc.devRef .tc main_v68) : FVec Ideal S4x20000x4 .f32) (ix3 b n k)
      = (![mid (del V b n 0) (anc V b n 0) (anc V b n 2) - reach (del V b n 2) (anc V b n 0) (anc V b n 2),
          mid (del V b n 1) (anc V b n 1) (anc V b n 3) - reach (del V b n 3) (anc V b n 1) (anc V b n 3),
          mid (del V b n 0) (anc V b n 0) (anc V b n 2) + reach (del V b n 2) (anc V b n 0) (anc V b n 2),
          mid (del V b n 1) (anc V b n 1) (anc V b n 3) + reach (del V b n 3) (anc V b n 1) (anc V b n 3)] : Fin 4 → EReal) k := by
  rw [corners_eq, ← low_x, ← mid_x, ← mid_y, ← reach_x, ← reach_y]
  fin_cases k <;> unfold corners <;> pointwise <;> rfl

end Cert.RefVal
end
end
-- ==== Proof.RefBox.lean ====
module

public import proofs.«01_k».proof.Proof.RefPrep

/-! # The reference's table

The reference gathers the decoded boxes of the thousand anchors with the best scores: that is the table the kernel works on. -/

@[expose] public section

set_option maxRecDepth 16384

noncomputable section

namespace Cert.RefVal

open Idealize.ShloMosaic Idealize.ShloMosaic.TcCoe Idealize.ShloMosaic.Tactic
open Idealize.ShloMosaic.StableHlo
open Cert.ReferenceIdeal Cert.ReferenceIdeal.Gen
open Cert.RefRun Cert.Spec
open scoped Classical

variable (V : Valuation τ sig (Elt Ideal))

theorem zero_word : Ideal.ofBits .f32 0x00000000#32 = 0 := by
  simp [Ideal.ofBits, Ideal.ieee]

/-- The contents after the coordinates were brought into the picture. -/
abbrev clips : Valuation τ sig (Elt Ideal) :=
  after p1_7 (after p1_6 (after p1_5 (after p1_4 (after p1_3 (after p1_2 (after p1_1 V))))))

/-- The clip of one coordinate. -/
theorem clip_eq (x : EReal) :
    min ((constant (F := Ideal) S_ .f32 0x44480000#32 : FVec Ideal S_ .f32) ix0 : EReal)
      (max ((constant (F := Ideal) S_ .f32 0x00000000#32 : FVec Ideal S_ .f32) ix0 : EReal) x) = bound x := by
  show min (Ideal.ofBits .f32 0x44480000#32) (max (Ideal.ofBits .f32 0x00000000#32) x) = _
  rw [zero_word]
  rfl

variable (h0 : (V (Proc.devRef .tc main_cst_8) : FVec Ideal S_ .f32) = constant (F := Ideal) S_ .f32 0x00000000#32)
  (h1 : (V (Proc.devRef .tc main_cst_9) : FVec Ideal S_ .f32) = constant (F := Ideal) S_ .f32 0x44480000#32)
  (h2 : ∀ (b : Fin 4) (n : Fin 20000), (V (Proc.devRef .tc main_v70) : FVec Ideal S4x20000 .f32) (ix2 b n)
    = (V (Proc.devRef .tc main_v68) : FVec Ideal S4x20000x4 .f32) (ix3 b n 0))

include h0 h1 h2 in
theorem bound_0 (b : Fin 4) (n : Fin 20000) :
    (clips V (Proc.devRef .tc main_v71) : Vec Ideal S4x20000 .f32) (ix2 b n)
      = bound ((V (Proc.devRef .tc main_v68) : Vec Ideal S4x20000x4 .f32) (ix3 b n 0)) := by
  unfold clips p1_7 p1_6 p1_5 p1_4 p1_3 p1_2 p1_1
  after_reads_at
  simp only [id, h0, h1, h2, clip_eq]

theorem bound_1 (b : Fin 4) (n : Fin 20000) :
    (clips V (Proc.devRef .tc main_v74) : Vec Ideal S4x20000 .f32) (ix2 b n)
      = bound ((V (Proc.devRef .tc main_v68) : Vec Ideal S4x20000x4 .f32) (ix3 b n 1)) := by
  unfold clips p1_7 p1_6 p1_5 p1_4 p1_3 p1_2 p1_1
  after_reads_at
  simp only [id, clip_eq]

theorem bound_2 (b : Fin 4) (n : Fin 20000) :
    (clips V (Proc.devRef .tc main_v77) : Vec Ideal S4x20000 .f32) (ix2 b n)
      = bound ((V (Proc.devRef .tc main_v68) : Vec Ideal S4x20000x4 .f32) (ix3 b n 2)) := by
  unfold clips p1_7 p1_6 p1_5 p1_4 p1_3 p1_2 p1_1
  after_reads_at
  simp only [id, clip_eq]

theorem bound_3 (b : Fin 4) (n : Fin 20000) :
    (clips V (Proc.devRef .tc main_v80) : Vec Ideal S4x20000 .f32) (ix2 b n)
      = bound ((V (Proc.devRef .tc main_v68) : Vec Ideal S4x20000x4 .f32) (ix3 b n 3)) := by
  unfold clips p1_7 p1_6 p1_5 p1_4 p1_3 p1_2 p1_1
  after_reads_at
  simp only [id, clip_eq]

theorem clips_class : clips V (Proc.devRef .tc main_v8) = V (Proc.devRef .tc main_v8) := by
  unfold clips p1_7 p1_6 p1_5 p1_4 p1_3 p1_2 p1_1
  after_results

theorem clips_best : clips V (Proc.devRef .tc main_v6) = V (Proc.devRef .tc main_v6) := by
  unfold clips p1_7 p1_6 p1_5 p1_4 p1_3 p1_2 p1_1
  after_results

/-- Six columns side by side. -/
abbrev columns (x0 x1 x2 x3 x4 x5 : FVec Ideal S4x20000 .f32) : FVec Ideal S4x20000x6 .f32 :=
  concatenate S4x20000x6 2
    [⟨S4x20000x1, broadcastInDim S4x20000x1 ![0, 1] bcast_S4x20000_S4x20000x1_0_1 x0⟩,
     ⟨S4x20000x1, broadcastInDim S4x20000x1 ![0, 1] bcast_S4x20000_S4x20000x1_0_1 x1⟩,
     ⟨S4x20000x1, broadcastInDim S4x20000x1 ![0, 1] bcast_S4x20000_S4x20000x1_0_1 x2⟩,
     ⟨S4x20000x1, broadcastInDim S4x20000x1 ![0, 1] bcast_S4x20000_S4x20000x1_0_1 x3⟩,
     ⟨S4x20000x1, broadcastInDim S4x20000x1 ![0, 1] bcast_S4x20000_S4x20000x1_0_1 x4⟩,
     ⟨S4x20000x1, broadcastInDim S4x20000x1 ![0, 1] bcast_S4x20000_S4x20000x1_0_1 x5⟩]
    concatenates_S4x20000x1_S4x20000x1_S4x20000x1_S4x20000x1_S4x20000x1_S4x20000x1_S4x20000x6_d2

theorem columns_at (x0 x1 x2 x3 x4 x5 : FVec Ideal S4x20000 .f32) (b : Fin 4) (n : Fin 20000) (k : Fin 6) :
    columns x0 x1 x2 x3 x4 x5 (ix3 b n k)
      = (![x0 (ix2 b n), x1 (ix2 b n), x2 (ix2 b n), x3 (ix2 b n), x4 (ix2 b n), x5 (ix2 b n)] : Fin 6 → EReal) k := by
  fin_cases k <;> unfold columns <;> pointwise <;> rfl

theorem columns_of (x0 x1 x2 x3 x4 x5 : FVec Ideal S4x20000 .f32) (b : Fin 4) (n : Fin 20000) (u : Box)
    (e0 : x0 (ix2 b n) = u 0) (e1 : x1 (ix2 b n) = u 1) (e2 : x2 (ix2 b n) = u 2) (e3 : x3 (ix2 b n) = u 3)
    (e4 : x4 (ix2 b n) = u 4) (e5 : x5 (ix2 b n) = u 5) (k : Fin 6) : columns x0 x1 x2 x3 x4 x5 (ix3 b n k) = u k := by
  rw [columns_at, e0, e1, e2, e3, e4, e5]
  fin_cases k <;> rfl

/-- A corner of a decoded box. -/
theorem decode_corner (s : Fin 80 → EReal) (d p : Fin 4 → EReal) (k : Fin 4) :
    bound ((![mid (d 0) (p 0) (p 2) - reach (d 2) (p 0) (p 2), mid (d 1) (p 1) (p 3) - reach (d 3) (p 1) (p 3),
      mid (d 0) (p 0) (p 2) + reach (d 2) (p 0) (p 2), mid (d 1) (p 1) (p 3) + reach (d 3) (p 1) (p 3)] : Fin 4 → EReal) k)
      = decode s d p (k.castLE (by decide)) := by
  fin_cases k <;> rfl

theorem boxes_eq : (after p1_8 V (Proc.devRef .tc main_v87) : FVec Ideal S4x20000x6 .f32)
    = columns (V (Proc.devRef .tc main_v71)) (V (Proc.devRef .tc main_v74)) (V (Proc.devRef .tc main_v77))
        (V (Proc.devRef .tc main_v80)) (V (Proc.devRef .tc main_v8)) (V (Proc.devRef .tc main_v6)) := by
  unfold p1_8
  after_results
  rfl

theorem order_eq : (after p1_8 V (Proc.devRef .tc main_v88) : IVec S4x1000x1 32)
    = broadcastInDim S4x1000x1 ![0, 1] bcast_S4x1000_S4x1000x1_0_1
        (Host.topK S4x1000 1 (FloatOps.cmpfTotal (F := Ideal) (φ := .f32) .gt) (V (Proc.devRef .tc main_v6) : FVec Ideal S4x20000 .f32)
          sliceFits_S4x20000_S4x1000).2 := by
  unfold p1_8
  after_results

/-- The read of one box at its place. -/
theorem gather_box (x : Vec Ideal S4x20000x6 .f32) (idx : IVec S4x1000x1 32) (b : Fin 4) (k : Fin 6) (j : Fin 1000) (n : Fin 20000)
    (h : idx (ix3 b j 0) = BitVec.ofNat 32 n.val) :
    Host.gather gather_S4x20000x6_S4x1000x1_S4x1000x6_2_1_0_0_1_2_116 x idx (ix3 b j k) = x (ix3 b n k) := by
  refine Move.gather_at _ x idx _ _ fun a => ?_
  fin_cases a
  · show 0 + b.val + 0 = b.val
    omega
  · have e : gather_S4x20000x6_S4x1000x1_S4x1000x6_2_1_0_0_1_2_116.siIdx (ix3 b j k) ⟨0, by decide⟩ = ix3 b j 0 :=
      funext fun a => by fin_cases a <;> rfl
    show min (idx (gather_S4x20000x6_S4x1000x1_S4x1000x6_2_1_0_0_1_2_116.siIdx (ix3 b j k) ⟨0, _⟩)).toInt.toNat (20000 - 1) + 0 + 0 = n.val
    rw [e, h, Words.toInt_ofNat (by omega), Int.toNat_natCast]
    omega
  · show 0 + 0 + k.val = k.val
    omega

/-- The boxes read at their places. -/
theorem take_at (b : Fin 4) (k : Fin 6) (j : Fin 1000) (n : Fin 20000)
    (h : (V (Proc.devRef .tc main_v88) : IVec S4x1000x1 32) (ix3 b j 0) = BitVec.ofNat 32 n.val) :
    (after p1_9 V (Proc.devRef .tc main_v89) : Vec Ideal S4x1000x6 .f32) (ix3 b j k)
      = (V (Proc.devRef .tc main_v87) : Vec Ideal S4x20000x6 .f32) (ix3 b n k) := by
  unfold p1_9
  after_reads_at
  rw [Finset.univ_unique, Finset.fold_singleton, show (default : Fin 1) = 0 from rfl, h, Move.wrap_word (by omega),
    show (19999#32 : BitVec 32) = BitVec.ofNat 32 19999 from rfl, Move.inside_word (by omega) (by omega), Words.select_eq]
  refine (if_pos (by decide)).trans ?_
  refine gather_box _ _ b k j n ?_
  show Scalar.select (IntOp.cmpi CmpIPredicate.slt ((V (Proc.devRef .tc main_v88) : IVec S4x1000x1 32) (ix3 b j 0)) 0#32) _
    ((V (Proc.devRef .tc main_v88) : IVec S4x1000x1 32) (ix3 b j 0)) = _
  rw [h, Move.wrap_word (by omega)]

/-- The contents when the boxes have been decoded. -/
abbrev decoded : Valuation τ sig (Elt Ideal) := clips (after p1_0 (after p0_2 (after p0_1 (after p0_0 V))))

/-- The deltas and scores. -/
abbrev argD : Deltas := V (Proc.devRef .tc main_arg0)
/-- The anchors. -/
abbrev argA : Anchors := V (Proc.devRef .tc main_arg1)

theorem first_zero : (after p1_0 V (Proc.devRef .tc main_cst_8) : FVec Ideal S_ .f32) = constant (F := Ideal) S_ .f32 0x00000000#32 := by
  unfold p1_0
  after_results

theorem first_side : (after p1_0 V (Proc.devRef .tc main_cst_9) : FVec Ideal S_ .f32) = constant (F := Ideal) S_ .f32 0x44480000#32 := by
  unfold p1_0
  after_results

theorem first_col (b : Fin 4) (n : Fin 20000) : (after p1_0 V (Proc.devRef .tc main_v70) : FVec Ideal S4x20000 .f32) (ix2 b n)
    = (after p1_0 V (Proc.devRef .tc main_v68) : FVec Ideal S4x20000x4 .f32) (ix3 b n 0) := by
  have e : (after p1_0 V (Proc.devRef .tc main_v70) : FVec Ideal S4x20000 .f32)
      = shapeCast S4x20000 (extractStridedSlice S4x20000x1 ![0, 0, 0]
          (shapeCast S4x20000x4 (corners (V (Proc.devRef .tc main_v44)) (V (Proc.devRef .tc main_v46)) (V (Proc.devRef .tc main_v48))
            (V (Proc.devRef .tc main_v50)) (V (Proc.devRef .tc main_v53))) shapeCasts_S80000x4_S4x20000x4)
          slices_S4x20000x4_S4x20000x1_0_0_0) shapeCasts_S4x20000x1_S4x20000 := by
    unfold p1_0
    after_results
    rfl
  rw [e, corners_eq]
  generalize shapeCast S4x20000x4 _ _ = x
  pointwise

theorem class_through : after p1_0 V (Proc.devRef .tc main_v8) = V (Proc.devRef .tc main_v8) := by
  unfold p1_0
  after_results

theorem best_through : after p1_0 (after p0_2 (after p0_1 V)) (Proc.devRef .tc main_v6) = V (Proc.devRef .tc main_v6) := by
  unfold p1_0 p0_2 p0_1
  after_results

theorem deltas_through : after p0_1 V (Proc.devRef .tc main_v4) = V (Proc.devRef .tc main_v4) := by
  unfold p0_1
  after_results

theorem anchors_through : after p0_1 V (Proc.devRef .tc main_v1) = V (Proc.devRef .tc main_v1) := by
  unfold p0_1
  after_results

/-- The best score of each anchor. -/
theorem best_eq : (decoded V (Proc.devRef .tc main_v6) : FVec Ideal S4x20000 .f32) = scores (argD V) (argA V) := by
  funext y
  obtain ⟨b, n, rfl⟩ : ∃ (b : Fin 4) (n : Fin 20000), y = ix2 b n := ⟨y 0, y 1, eq_ix2 y⟩
  refine (congrFun ((clips_best _).trans (best_through _)) (ix2 b n)).trans ?_
  refine (best_at V b n).trans ?_
  exact congrArg top (funext fun k => scores_at V b n k)

/-- The decoded boxes. -/
theorem boxes_at (b : Fin 4) (n : Fin 20000) (k : Fin 6) :
    (after p1_8 (decoded V) (Proc.devRef .tc main_v87) : FVec Ideal S4x20000x6 .f32) (ix3 b n k) = boxAt (argD V) (argA V) b n k := by
  rw [boxes_eq]
  have hd : del (after p0_1 (after p0_0 V)) b n = _ := funext fun k => (congrFun (deltas_through _) _).trans (deltas_at V b n k)
  have ha : anc (after p0_1 (after p0_0 V)) b n = _ := funext fun k => (congrFun (anchors_through _) _).trans (anchors_at V b n k)
  have hc : ∀ k : Fin 4, bound ((after p1_0 (after p0_2 (after p0_1 (after p0_0 V))) (Proc.devRef .tc main_v68) : FVec Ideal S4x20000x4 .f32) (ix3 b n k))
      = boxAt (argD V) (argA V) b n (k.castLE (by decide)) := by
    intro k
    rw [corners_at, decode_corner (fun k => argD V (ix4 b ⟨84 * (n.val % 8) + 4 + k.val, by omega⟩ ⟨n.val / 8 / 50, by omega⟩ ⟨n.val / 8 % 50, by omega⟩)) (del _ b n) (anc _ b n) k, hd, ha, boxAt]
  refine columns_of _ _ _ _ _ _ b n (boxAt (argD V) (argA V) b n) ?_ ?_ ?_ ?_ ?_ ?_ k
  · exact (bound_0 _ (first_zero _) (first_side _) (first_col _) b n).trans (hc 0)
  · exact (bound_1 _ b n).trans (hc 1)
  · exact (bound_2 _ b n).trans (hc 2)
  · exact (bound_3 _ b n).trans (hc 3)
  · refine (congrFun ((clips_class _).trans (class_through _)) (ix2 b n)).trans ?_
    refine (class_num _ b n).trans ?_
    rw [class_at]
    exact congrArg (fun s => FloatOps.sitofp (F := Ideal) .f32 (BitVec.ofNat 32 (cls s))) (funext fun k => scores_at V b n k)
  · exact congrFun (best_eq V) (ix2 b n)

/-- The contents when the table has been gathered. -/
abbrev chosen : Valuation τ sig (Elt Ideal) := after p1_9 (after p1_8 (decoded V))

/-- The gathered boxes are the table. -/
theorem chosen_at (b : Fin 4) (j : Fin 1000) (k : Fin 6) :
    (chosen V (Proc.devRef .tc main_v89) : FVec Ideal S4x1000x6 .f32) (ix3 b j k) = table (argD V) (argA V) b j.val k := by
  rw [table_in]
  refine (take_at _ b k j (place (argD V) (argA V) b j) ?_).trans (boxes_at V b _ k)
  rw [order_eq, best_eq]
  exact place_eq (argD V) (argA V) b j sliceFits_S4x20000_S4x1000

end Cert.RefVal
end
end
-- ==== Proof.RefIou.lean ====
module

public import proofs.«01_k».proof.Proof.RefBox

/-! # The reference's overlaps

The mask the rounds start from, and the overlap of every pair of boxes. -/

@[expose] public section

set_option maxRecDepth 16384

noncomputable section

namespace Cert.RefVal

open Idealize.ShloMosaic Idealize.ShloMosaic.TcCoe Idealize.ShloMosaic.Tactic
open Idealize.ShloMosaic.StableHlo
open Cert.ReferenceIdeal Cert.ReferenceIdeal.Gen
open Cert.RefRun Cert.Spec
open scoped Classical

variable (V : Valuation τ sig (Elt Ideal))

/-- A row of the gathered array. -/
abbrev rowOf (b : Fin 4) (j : Fin 1000) : Box := fun k => (V (Proc.devRef .tc main_v89) : FVec Ideal S4x1000x6 .f32) (ix3 b j k)

theorem sub_zero_word (x : EReal) : x - Ideal.ofBits .f32 0x00000000#32 = x := by
  rw [zero_word, sub_zero]

theorem zero_const : (constant (F := Ideal) S_ .f32 0x00000000#32 : FVec Ideal S_ .f32) ix0 = 0 := zero_word

/-- The mask before the first round. -/
theorem good_at (b : Fin 4) (j : Fin 1000) :
    (after p2_0 (after p1_10 V) (Proc.devRef .tc main_v109) : IVec S4x1000 1) (ix2 b j) = 1#1 ↔ good (rowOf V b j) := by
  unfold p2_0 p1_10
  after_reads_at
  rw [Words.and_iff, Words.and_iff, Words.bit_iff, Words.bit_iff, Words.bit_iff]
  rfl

/-- The corners and sizes after the reads. -/
abbrev crossed : Valuation τ sig (Elt Ideal) := after p2_5 (after p2_4 (after p2_3 (after p2_2 (after p2_1 (after p2_0 (after p1_10 V))))))

/-- The overlaps. -/
theorem iou_at (b : Fin 4) (i j : Fin 1000) :
    (crossed V (Proc.devRef .tc main_v147) : FVec Ideal S4x1000x1000 .f32) (ix3 b i j) = iou (rowOf V b i) (rowOf V b j) := by
  unfold crossed p2_5 p2_4 p2_3 p2_2 p2_1 p2_0 p1_10
  after_reads_at
  simp only [id, zero_const, max_comm (0 : EReal)]
  rfl

end Cert.RefVal
end
end
-- ==== Proof.RefLoop.lean ====
module

public import proofs.«01_k».proof.Proof.RefIou
public import Idealize.ShloMosaic.Lib.DynamicIndex

/-! # The reference's rounds

Round after round the loop drops the boxes that overlap a kept one; the mask after all rounds is the kernel's. -/

@[expose] public section

set_option maxRecDepth 16384

noncomputable section

namespace Cert.RefVal

open Idealize.ShloMosaic Idealize.ShloMosaic.TcCoe Idealize.ShloMosaic.Tactic
open Idealize.ShloMosaic.StableHlo
open Cert.ReferenceIdeal Cert.ReferenceIdeal.Gen
open Cert.RefRun Cert.Spec
open scoped Classical

variable (V : Valuation τ sig (Elt Ideal))

/-- The places of the loop's body: the first slice's start, the slice, the second slice's start, the slice, the rest. -/
abbrev bodyA : List (HloOp τ sig (Elt Ideal)) := bodyOps.take 9
abbrev bodyB : List (HloOp τ sig (Elt Ideal)) := (bodyOps.drop 9).take 1
abbrev bodyC : List (HloOp τ sig (Elt Ideal)) := (bodyOps.drop 10).take 8
abbrev bodyD : List (HloOp τ sig (Elt Ideal)) := (bodyOps.drop 18).take 1
abbrev bodyE : List (HloOp τ sig (Elt Ideal)) := bodyOps.drop 19

theorem body_split : after bodyOps V = after bodyE (after bodyD (after bodyC (after bodyB (after bodyA V)))) := by
  rw [← after_append, ← after_append, ← after_append, ← after_append]
  rfl

/-- The mask's column at the round's place. -/
theorem column_at (k : Fin 1000) (b : Fin 4)
    (h0 : (V (Proc.devRef .tc main_while0b_c_39) : IVec S_ 32) ix0 = 0#32)
    (h1 : (V (Proc.devRef .tc main_while0b_v184) : IVec S_ 32) ix0 = BitVec.ofNat 32 k.val) :
    (after bodyB V (Proc.devRef .tc main_while0b_v185) : IVec S4x1 1) (ix2 b 0) = (V (Proc.devRef .tc main_v149_4) : IVec S4x1000 1) (ix2 b k) := by
  unfold bodyB bodyOps
  simp only [List.take_succ_cons, List.take_zero, List.drop_succ_cons, List.drop_zero]
  after_results
  refine (congrFun (Host.dynamicSlice_eq_extractStridedSlice (s := S4x1000) S4x1 (V (Proc.devRef .tc main_v149_4) : IVec S4x1000 1) _ ![0, k.val] sliceFits_S4x1000_S4x1 ⟨rfl, fun a => ?_⟩ fun a => ?_) _).trans ?_
  · fin_cases a
    · show 0 + 4 ≤ 4
      omega
    · show k.val + 1 ≤ 1000
      omega
  · fin_cases a
    · exact (congrArg BitVec.toInt ((congrArg _ (Subsingleton.elim _ ix0)).trans h0)).trans rfl
    · exact (congrArg BitVec.toInt ((congrArg _ (Subsingleton.elim _ ix0)).trans h1)).trans (Words.toInt_ofNat (by omega))
  · pointwise

/-- The overlaps of the round's place. -/
theorem line_at (k : Fin 1000) (b : Fin 4) (j : Fin 1000)
    (h0 : (V (Proc.devRef .tc main_while0b_c_42) : IVec S_ 32) ix0 = 0#32)
    (h1 : (V (Proc.devRef .tc main_while0b_v189) : IVec S_ 32) ix0 = BitVec.ofNat 32 k.val)
    (h2 : (V (Proc.devRef .tc main_while0b_c_43) : IVec S_ 32) ix0 = 0#32) :
    (after bodyD V (Proc.devRef .tc main_while0b_v190) : FVec Ideal S4x1x1000 .f32) (ix3 b 0 j)
      = (V (Proc.devRef .tc main_v149_0) : FVec Ideal S4x1000x1000 .f32) (ix3 b k j) := by
  unfold bodyD bodyOps
  simp only [List.take_succ_cons, List.take_zero, List.drop_succ_cons, List.drop_zero]
  after_results
  refine (congrFun (Host.dynamicSlice_eq_extractStridedSlice (s := S4x1000x1000) S4x1x1000
    (V (Proc.devRef .tc main_v149_0) : FVec Ideal S4x1000x1000 .f32) _ ![0, k.val, 0] sliceFits_S4x1000x1000_S4x1x1000 ⟨rfl, fun a => ?_⟩ fun a => ?_) _).trans ?_
  · fin_cases a
    · show 0 + 4 ≤ 4
      omega
    · show k.val + 1 ≤ 1000
      omega
    · show 0 + 1000 ≤ 1000
      omega
  · fin_cases a
    · exact (congrArg BitVec.toInt ((congrArg _ (Subsingleton.elim _ ix0)).trans h0)).trans rfl
    · exact (congrArg BitVec.toInt ((congrArg _ (Subsingleton.elim _ ix0)).trans h1)).trans (Words.toInt_ofNat (by omega))
    · exact (congrArg BitVec.toInt ((congrArg _ (Subsingleton.elim _ ix0)).trans h2)).trans rfl
  · pointwise

theorem not_iff (a : BitVec 1) : ~~~a = 1#1 ↔ ¬ a = 1#1 := by
  revert a; decide

/-- One round on the mask. -/
theorem rest_at (k : Fin 1000) (b : Fin 4) (j : Fin 1000)
    (h3 : (V (Proc.devRef .tc main_v149_3) : IVec S_ 32) ix0 = BitVec.ofNat 32 k.val)
    (h1 : (V (Proc.devRef .tc main_v149_1) : IVec S1000 32) (ix1 j) = BitVec.ofNat 32 j.val) :
    (after bodyE V (Proc.devRef .tc main_v149_4) : IVec S4x1000 1) (ix2 b j) = 1#1
      ↔ (V (Proc.devRef .tc main_v149_4) : IVec S4x1000 1) (ix2 b j) = 1#1
        ∧ ¬ (((V (Proc.devRef .tc main_while0b_v185) : IVec S4x1 1) (ix2 b 0) = 1#1
          ∧ Ideal.ofBits .f32 0x3F000000#32 < (V (Proc.devRef .tc main_while0b_v190) : FVec Ideal S4x1x1000 .f32) (ix3 b 0 j)) ∧ k.val < j.val) := by
  unfold bodyE bodyOps
  simp only [List.take_succ_cons, List.take_zero, List.drop_succ_cons, List.drop_zero]
  after_reads_at
  simp only [id]
  pointwise
  rw [h3, h1, Words.and_iff, not_iff, Words.and_iff, Words.and_iff, Words.bit_iff, Words.sgt_bit (by omega) (by omega)]

/-- The start of each slice is the round's number. -/
theorem start_at (k : Fin 1000) (h3 : (V (Proc.devRef .tc main_v149_3) : IVec S_ 32) ix0 = BitVec.ofNat 32 k.val) :
    (after bodyA V (Proc.devRef .tc main_while0b_c_39) : IVec S_ 32) ix0 = 0#32
      ∧ (after bodyA V (Proc.devRef .tc main_while0b_v184) : IVec S_ 32) ix0 = BitVec.ofNat 32 k.val := by
  unfold bodyA bodyOps
  simp only [List.take_succ_cons, List.take_zero, List.drop_succ_cons, List.drop_zero]
  constructor
  · after_reads_at
  · after_reads_at
    simp only [id, h3]
    exact Move.wrap_word (by omega) _

theorem start_again (k : Fin 1000) (h3 : (V (Proc.devRef .tc main_v149_3) : IVec S_ 32) ix0 = BitVec.ofNat 32 k.val) :
    (after bodyC V (Proc.devRef .tc main_while0b_c_42) : IVec S_ 32) ix0 = 0#32
      ∧ (after bodyC V (Proc.devRef .tc main_while0b_v189) : IVec S_ 32) ix0 = BitVec.ofNat 32 k.val
      ∧ (after bodyC V (Proc.devRef .tc main_while0b_c_43) : IVec S_ 32) ix0 = 0#32 := by
  unfold bodyC bodyOps
  simp only [List.take_succ_cons, List.take_zero, List.drop_succ_cons, List.drop_zero]
  refine ⟨?_, ?_, ?_⟩
  · after_reads_at
  · after_reads_at
    simp only [id, h3]
    exact Move.wrap_word (by omega) _
  · after_reads_at

theorem a_keeps : after bodyA V main_v149_4 = V main_v149_4 ∧ after bodyA V main_v149_0 = V main_v149_0
    ∧ after bodyA V main_v149_1 = V main_v149_1 ∧ after bodyA V main_v149_3 = V main_v149_3 := by
  unfold bodyA bodyOps
  simp only [List.take_succ_cons, List.take_zero, List.drop_succ_cons, List.drop_zero]
  refine ⟨?_, ?_, ?_, ?_⟩ <;> after_results

theorem b_keeps : after bodyB V main_v149_4 = V main_v149_4 ∧ after bodyB V main_v149_0 = V main_v149_0
    ∧ after bodyB V main_v149_1 = V main_v149_1 ∧ after bodyB V main_v149_3 = V main_v149_3 := by
  unfold bodyB bodyOps
  simp only [List.take_succ_cons, List.take_zero, List.drop_succ_cons, List.drop_zero]
  refine ⟨?_, ?_, ?_, ?_⟩ <;> after_results

theorem c_keeps : after bodyC V main_v149_4 = V main_v149_4 ∧ after bodyC V main_v149_0 = V main_v149_0
    ∧ after bodyC V main_v149_1 = V main_v149_1 ∧ after bodyC V main_v149_3 = V main_v149_3
    ∧ after bodyC V main_while0b_v185 = V main_while0b_v185 := by
  unfold bodyC bodyOps
  simp only [List.take_succ_cons, List.take_zero, List.drop_succ_cons, List.drop_zero]
  refine ⟨?_, ?_, ?_, ?_, ?_⟩ <;> after_results

theorem d_keeps : after bodyD V main_v149_4 = V main_v149_4
    ∧ after bodyD V main_v149_1 = V main_v149_1 ∧ after bodyD V main_v149_3 = V main_v149_3
    ∧ after bodyD V main_while0b_v185 = V main_while0b_v185 := by
  unfold bodyD bodyOps
  simp only [List.take_succ_cons, List.take_zero, List.drop_succ_cons, List.drop_zero]
  refine ⟨?_, ?_, ?_, ?_⟩ <;> after_results

/-- One round. -/
theorem body_mask (k : Fin 1000) (b : Fin 4) (j : Fin 1000)
    (h3 : (V (Proc.devRef .tc main_v149_3) : IVec S_ 32) ix0 = BitVec.ofNat 32 k.val)
    (h1 : (V (Proc.devRef .tc main_v149_1) : IVec S1000 32) (ix1 j) = BitVec.ofNat 32 j.val) :
    (after bodyOps V (Proc.devRef .tc main_v149_4) : IVec S4x1000 1) (ix2 b j) = 1#1
      ↔ (V (Proc.devRef .tc main_v149_4) : IVec S4x1000 1) (ix2 b j) = 1#1
        ∧ ¬ (((V (Proc.devRef .tc main_v149_4) : IVec S4x1000 1) (ix2 b k) = 1#1
          ∧ Ideal.ofBits .f32 0x3F000000#32 < (V (Proc.devRef .tc main_v149_0) : FVec Ideal S4x1000x1000 .f32) (ix3 b k j)) ∧ k.val < j.val) := by
  have a := start_at V k h3
  obtain ⟨a4, a0, a1, a3⟩ := a_keeps V
  have hb := column_at (after bodyA V) k b a.1 a.2
  obtain ⟨b4, b0, b1, b3⟩ := b_keeps (after bodyA V)
  have c := start_again (after bodyB (after bodyA V)) k ((congrFun (b3.trans a3) ix0).trans h3)
  obtain ⟨c4, c0, c1, c3, c5⟩ := c_keeps (after bodyB (after bodyA V))
  have hd := line_at (after bodyC (after bodyB (after bodyA V))) k b j c.1 c.2.1 c.2.2
  obtain ⟨d4, d1, d3, d5⟩ := d_keeps (after bodyC (after bodyB (after bodyA V)))
  have he := rest_at (after bodyD (after bodyC (after bodyB (after bodyA V)))) k b j
    ((congrFun (d3.trans (c3.trans (b3.trans a3))) ix0).trans h3) ((congrFun (d1.trans (c1.trans (b1.trans a1))) (ix1 j)).trans h1)
  have e4 := congrFun (d4.trans (c4.trans (b4.trans a4)))
  have e0 := congrFun (c0.trans (b0.trans a0))
  have e5 := congrFun (d5.trans c5)
  rw [body_split]
  refine he.trans ?_
  rw [e4 (ix2 b j), hd, e0, e5, hb, a4]

/-- What the loop reads and does not change. -/
theorem trip_keeps : after bodyOps (after condOps V) main_v149_0 = V main_v149_0 ∧ after bodyOps (after condOps V) main_v149_1 = V main_v149_1
    ∧ after bodyOps (after condOps V) main_v89 = V main_v89 := by
  unfold bodyOps condOps
  refine ⟨?_, ?_, ?_⟩ <;> after_results

theorem trip_next : (after bodyOps (after condOps V) (Proc.devRef .tc main_v149_3) : IVec S_ 32) ix0
    = IntOp.addi ((V (Proc.devRef .tc main_v149_3) : IVec S_ 32) ix0) 1#32 := by
  have e : (after bodyOps (after condOps V) (Proc.devRef .tc main_v149_3) : IVec S_ 32)
      = addi (s := S_) (V (Proc.devRef .tc main_v149_3) : IVec S_ 32) (constantI S_ 32 1#32) := by
    unfold bodyOps condOps
    after_results
    rfl
  rw [e]
  rfl

theorem cond_keeps : after condOps V main_v149_0 = V main_v149_0 ∧ after condOps V main_v149_1 = V main_v149_1
    ∧ after condOps V main_v149_3 = V main_v149_3 ∧ after condOps V main_v149_4 = V main_v149_4 ∧ after condOps V main_v89 = V main_v89 := by
  unfold condOps
  refine ⟨?_, ?_, ?_, ?_, ?_⟩ <;> after_results

/-- What holds before round `k`, for tables `T`. -/
structure Round (T : Fin 4 → ℕ → Box) (k : ℕ) : Prop where
  overlap : ∀ (b : Fin 4) (i j : Fin 1000), (V (Proc.devRef .tc main_v149_0) : FVec Ideal S4x1000x1000 .f32) (ix3 b i j) = iou (T b i.val) (T b j.val)
  number : ∀ j : Fin 1000, (V (Proc.devRef .tc main_v149_1) : IVec S1000 32) (ix1 j) = BitVec.ofNat 32 j.val
  index : (V (Proc.devRef .tc main_v149_3) : IVec S_ 32) ix0 = BitVec.ofNat 32 k
  boxes : ∀ (b : Fin 4) (j : Fin 1000) (c : Fin 6), (V (Proc.devRef .tc main_v89) : FVec Ideal S4x1000x6 .f32) (ix3 b j c) = T b j.val c
  mask : ∀ (b : Fin 4) (j : Fin 1000), (V (Proc.devRef .tc main_v149_4) : IVec S4x1000 1) (ix2 b j) = 1#1 ↔ keep (T b) k j.val

/-- A round keeps it. -/
theorem Round.step {T : Fin 4 → ℕ → Box} {k : ℕ} (hk : k < 1000) (h : Round V T k) : Round (after bodyOps (after condOps V)) T (k + 1) := by
  obtain ⟨t0, t1, t2⟩ := trip_keeps V
  obtain ⟨c0, c1, c3, c4, -⟩ := cond_keeps V
  refine ⟨fun b i j => (congrFun t0 _).trans (h.overlap b i j), fun j => (congrFun t1 _).trans (h.number j), ?_,
    fun b j c => (congrFun t2 _).trans (h.boxes b j c), fun b j => ?_⟩
  · rw [trip_next, h.index, BitVec.ofNat_add]
    rfl
  · have hm := body_mask (after condOps V) ⟨k, hk⟩ b j ((congrFun c3 ix0).trans h.index) ((congrFun c1 (ix1 j)).trans (h.number j))
    refine hm.trans ?_
    have m4 : ∀ i, (after condOps V (Proc.devRef .tc main_v149_4) : IVec S4x1000 1) i = (V (Proc.devRef .tc main_v149_4) : IVec S4x1000 1) i := congrFun c4
    have m0 : ∀ i, (after condOps V (Proc.devRef .tc main_v149_0) : FVec Ideal S4x1000x1000 .f32) i
        = (V (Proc.devRef .tc main_v149_0) : FVec Ideal S4x1000x1000 .f32) i := congrFun c0
    rw [m4, m4, m0, h.mask, h.mask, h.overlap, keep_succ]
    unfold close
    tauto

/-- The tables of the contents a run starts from. -/
abbrev tables : Fin 4 → ℕ → Box := table (argD V) (argA V)

/-- What the rounds start from. -/
theorem Round.start : Round (after p3_0 (after p2_6 (crossed (chosen V)))) (tables V) 0 := by
  have k89 : ∀ V : Valuation τ sig (Elt Ideal), after p3_0 (after p2_6 (crossed V)) main_v89 = V main_v89 := by
    intro V
    unfold crossed p3_0 p2_6 p2_5 p2_4 p2_3 p2_2 p2_1 p2_0 p1_10
    after_results
  have k0 : ∀ V : Valuation τ sig (Elt Ideal), after p3_0 (after p2_6 V) main_v149_0 = V main_v147 := by
    intro V
    unfold p3_0 p2_6
    after_results
    rfl
  have k1 : ∀ V : Valuation τ sig (Elt Ideal), (after p3_0 (after p2_6 V) (Proc.devRef .tc main_v149_1) : IVec S1000 32) = iotaInDim S1000 32 0 := by
    intro V
    unfold p3_0 p2_6
    after_results
    rfl
  have k3 : ∀ V : Valuation τ sig (Elt Ideal), (after p3_0 (after p2_6 V) (Proc.devRef .tc main_v149_3) : IVec S_ 32) = constantI S_ 32 0#32 := by
    intro V
    unfold p3_0 p2_6
    after_results
    rfl
  have k4 : ∀ V : Valuation τ sig (Elt Ideal), after p3_0 (after p2_6 V) main_v149_4 = V main_v109 := by
    intro V
    unfold p3_0 p2_6
    after_results
    rfl
  have k5 : ∀ V : Valuation τ sig (Elt Ideal), crossed V main_v109 = after p2_0 (after p1_10 V) main_v109 := by
    intro V
    unfold crossed p2_5 p2_4 p2_3 p2_2 p2_1
    after_results
  have hrow : ∀ (b : Fin 4) (j : Fin 1000), rowOf (chosen V) b j = tables V b j.val := fun b j => funext fun c => chosen_at V b j c
  refine ⟨fun b i j => ?_, fun j => ?_, ?_, fun b j c => (congrFun (k89 _) _).trans (chosen_at V b j c), fun b j => ?_⟩
  · refine (congrFun (k0 _) _).trans ((iou_at (chosen V) b i j).trans ?_)
    rw [hrow, hrow]
  · rw [k1]
    rfl
  · rw [k3]
    rfl
  · have e := congrFun ((k4 (crossed (chosen V))).trans (k5 (chosen V))) (ix2 b j)
    rw [keep_zero, ← hrow b j]
    exact (iff_of_eq (congrArg (· = 1#1) e)).trans (good_at (chosen V) b j)

/-- The contents before round `k`. -/
theorem round_at (W : Dev nD → Valuation τ sig (Elt Ideal)) (c : Dev nD) (T : Fin 4 → ℕ → Box) (h : Round (W c) T 0) :
    ∀ k, k ≤ 1000 → Round (atTrip condOps [bodyOps] W k c) T k
  | 0, _ => h
  | k + 1, hk => by
    rw [atTrip_succ, afterL_cons, afterL_nil]
    exact Round.step _ (by omega) (round_at W c T h k (by omega))

/-- The contents when the rounds are over. -/
theorem rounds (m : (ℓ : Loc nD τ sig) → Buf (Elt Ideal) ℓ) (c : Dev nD) :
    Round (after condOps (atTrip condOps [bodyOps] (entryContents preI m) 1000 c))
      (table (m ((c.tc : Thread nD τ).loc main_arg0)) (m ((c.tc : Thread nD τ).loc main_arg1))) 1000 := by
  have h := round_at (entryContents preI m) c (table (m ((c.tc : Thread nD τ).loc main_arg0)) (m ((c.tc : Thread nD τ).loc main_arg1)))
    (Round.start _) 1000 le_rfl
  obtain ⟨c0, c1, c3, c4, c5⟩ := cond_keeps (atTrip condOps [bodyOps] (entryContents preI m) 1000 c)
  exact ⟨fun b i j => (congrFun c0 _).trans (h.overlap b i j), fun j => (congrFun c1 _).trans (h.number j), (congrFun c3 _).trans h.index,
    fun b j k => (congrFun c5 _).trans (h.boxes b j k), fun b j => (iff_of_eq (congrArg (· = 1#1) (congrFun c4 _))).trans (h.mask b j)⟩

end Cert.RefVal
end
end
-- ==== Proof.RefOut.lean ====
module

public import proofs.«01_k».proof.Proof.RefLoop
public import Idealize.ShloMosaic.Lib.Routing.Ops

/-! # The reference's result

The kept boxes are numbered by a running count of the mask and written to the rows of their numbers; what is not kept, or comes too late,
is written to a row that is cut off. -/

@[expose] public section

set_option maxRecDepth 16384

noncomputable section

namespace Cert.RefVal

open Idealize.ShloMosaic Idealize.ShloMosaic.TcCoe Idealize.ShloMosaic.Tactic
open Idealize.ShloMosaic.StableHlo
open Cert.ReferenceIdeal Cert.ReferenceIdeal.Gen
open Cert.RefRun Cert.Spec
open scoped Classical

variable (V : Valuation τ sig (Elt Ideal))

/-- A running sum along the rows of a matrix is the running sum of each row. -/
theorem row_sum {A N M : ℕ} (x : IVec (Routing.shape2 A N) 32) (init : IVec Routing.shape0 32)
    (h : (Routing.shape2 A N).ReduceWindows (![1, N] : Fin 2 → ℕ) ![1, 1] ![0, M] ![0, 0] (Routing.shape2 A N))
    (h' : (Routing.shape2 1 N).ReduceWindows (![1, N] : Fin 2 → ℕ) ![1, 1] ![0, M] ![0, 0] (Routing.shape2 1 N))
    (hu : 0 < Routing.shape0.numel) (b : Fin A) (j : Fin N) :
    Host.reduceWindow IntOp.addi ![1, N] ![1, 1] ![0, M] ![0, 0] x init h hu (ix2 b j)
      = Host.reduceWindow IntOp.addi ![1, N] ![1, 1] ![0, M] ![0, 0] (fun i : (Routing.shape2 1 N).Idx => x (ix2 b (i 1))) init h' hu (ix2 (0 : Fin 1) j) := by
  unfold Host.reduceWindow
  refine congrArg (fun f => List.foldl f (init (Shape.Idx.first hu)) _) (funext₂ fun r n => congrArg (IntOp.addi r) ?_)
  have hw : (((⟨2, ![1, N]⟩ : Shape).rowMajor.symm n 0).val : ℕ) < 1 := ((⟨2, ![1, N]⟩ : Shape).rowMajor.symm n 0).isLt
  have hb := b.isLt
  dsimp only
  by_cases hc : M ≤ j.val * 1 + ((⟨2, ![1, N]⟩ : Shape).rowMajor.symm n 1).val ∧ j.val * 1 + ((⟨2, ![1, N]⟩ : Shape).rowMajor.symm n 1).val - M < N
  · rw [dif_pos, dif_pos]
    · refine congrArg x (funext fun a => ?_)
      fin_cases a
      · refine Fin.ext ?_
        show b.val * 1 + ((⟨2, ![1, N]⟩ : Shape).rowMajor.symm n 0).val - 0 = b.val
        omega
      · rfl
    · intro a
      fin_cases a
      · exact ⟨Nat.zero_le _, show 0 * 1 + ((⟨2, ![1, N]⟩ : Shape).rowMajor.symm n 0).val - 0 < 1 by omega⟩
      · exact hc
    · intro a
      fin_cases a
      · exact ⟨Nat.zero_le _, show b.val * 1 + ((⟨2, ![1, N]⟩ : Shape).rowMajor.symm n 0).val - 0 < A by omega⟩
      · exact hc
  · rw [dif_neg fun h => hc (h 1), dif_neg fun h => hc (h 1)]

/-- A sum of ones is a count. -/
theorem sum_ones (P : ℕ → Prop) : ∀ n, ((List.range n).map fun i => if P i then 1 else 0).sum = Nat.count P n
  | 0 => by rw [Nat.count_zero]; rfl
  | n + 1 => by rw [List.range_succ, List.map_append, List.sum_append, sum_ones P n, Nat.count_succ, List.map_singleton, List.sum_singleton]

attribute [local irreducible] Host.reduceWindow in
/-- The running sum as the reference writes it. -/
theorem count_eq : (after p3_1 V (Proc.devRef .tc main_v150) : IVec S4x1000 32)
    = Host.reduceWindow IntOp.addi ![1, 1000] ![1, 1] ![0, 999] ![0, 0] (extui 32 (V (Proc.devRef .tc main_v149_4) : IVec S4x1000 1) natLt_1_32)
      (broadcastInDim S_ ![] bcast_S_S_ (constantI S_ 32 0#32)) reduceWindows_S4x1000_S4x1000_w1s1p0_0_w1000s1p999_0 h_S_ := by
  unfold p3_1
  after_results
  rfl

/-- The running count of the mask. -/
theorem count_at (P : Fin 4 → ℕ → Prop)
    (hP : ∀ (b : Fin 4) (j : Fin 1000), (V (Proc.devRef .tc main_v149_4) : IVec S4x1000 1) (ix2 b j) = 1#1 ↔ P b j.val) (b : Fin 4) (j : Fin 1000) :
    (after p3_1 V (Proc.devRef .tc main_v150) : IVec S4x1000 32) (ix2 b j) = BitVec.ofNat 32 (Nat.count (P b) (j.val + 1)) := by
  rw [count_eq, ← sum_ones]
  refine (row_sum (A := 4) (N := 1000) (M := 999) _ _ _ ⟨rfl, by decide⟩ _ b j).trans ?_
  refine Routing.cumsum2 (N := 1000) (Nm1 := 999) rfl _ (fun i => if P b i then 1 else 0) (fun i => ?_) _ rfl _ _ j
  show BitVec.setWidth 32 ((V (Proc.devRef .tc main_v149_4) : IVec S4x1000 1) (ix2 b i)) = _
  have h := hP b i
  generalize (V (Proc.devRef .tc main_v149_4) : IVec S4x1000 1) (ix2 b i) = w at h
  by_cases hp : P b i
  · rw [if_pos hp, h.2 hp]
    rfl
  · rw [if_neg hp, ((by decide : ∀ w : BitVec 1, w ≠ 1#1 → w = 0#1) w fun hw => hp (h.1 hw))]
    rfl

/-- The row a place is written to. -/
def slot (P : ℕ → Prop) (j : ℕ) : ℕ := if P j ∧ Nat.count P (j + 1) - 1 < 300 then Nat.count P (j + 1) - 1 else 300

theorem slot_le (P : ℕ → Prop) (j : ℕ) : slot P j ≤ 300 := by
  unfold slot
  split <;> omega

/-- The row as the reference computes it. -/
theorem slot_at (P : Fin 4 → ℕ → Prop)
    (hP : ∀ (b : Fin 4) (j : Fin 1000), (V (Proc.devRef .tc main_v149_4) : IVec S4x1000 1) (ix2 b j) = 1#1 ↔ P b j.val)
    (hc : ∀ (b : Fin 4) (j : Fin 1000), (V (Proc.devRef .tc main_v150) : IVec S4x1000 32) (ix2 b j) = BitVec.ofNat 32 (Nat.count (P b) (j.val + 1)))
    (b : Fin 4) (j : Fin 1000) :
    (after p3_3 (after p3_2 V) (Proc.devRef .tc main_v156) : IVec S4x1000 32) (ix2 b j) = BitVec.ofNat 32 (slot (P b) j.val) := by
  unfold p3_3 p3_2
  after_reads_at
  simp only [id, hc]
  have hle : Nat.count (P b) (j.val + 1) ≤ j.val + 1 := Nat.count_le _
  have hj := j.isLt
  unfold slot
  rw [Words.select_eq]
  simp only [Words.and_iff, hP]
  by_cases hp : P b j.val
  · have h1 : Nat.count (P b) (j.val + 1) = Nat.count (P b) j.val + 1 := by rw [Nat.count_succ, if_pos hp]
    generalize Nat.count (P b) j.val = d at h1
    rw [h1] at hle ⊢
    have hs : IntOp.subi (BitVec.ofNat 32 (d + 1)) 1#32 = BitVec.ofNat 32 d := by
      show BitVec.ofNat 32 (d + 1) - 1#32 = _
      rw [BitVec.ofNat_add]
      exact BitVec.add_sub_cancel _ _
    have hb : IntOp.cmpi CmpIPredicate.slt (BitVec.ofNat 32 d) 300#32 = 1#1 ↔ d < 300 :=
      Words.slt_bit (b := 300) (by omega) (by omega)
    rw [hs, Nat.add_sub_cancel]
    by_cases h3 : d < 300
    · rw [if_pos ⟨hp, hb.2 h3⟩, if_pos ⟨hp, h3⟩]
    · rw [if_neg fun h => h3 (hb.1 h.2), if_neg fun h => h3 h.2]
      rfl
  · rw [if_neg fun h => hp h.1, if_neg fun h => hp h.1]
    rfl

/-- The batch's word and the row's word of each place. -/
abbrev targets (V : Valuation τ sig (Elt Ideal)) : IVec S4x1000x2 32 := after p3_4 V (Proc.devRef .tc main_v177)

theorem targets_eq : targets V = concatenate S4x1000x2 2
    [⟨S4x1000x1, (after p3_4 V (Proc.devRef .tc main_v175) : IVec S4x1000x1 32)⟩, ⟨S4x1000x1, (after p3_4 V (Proc.devRef .tc main_v176) : IVec S4x1000x1 32)⟩]
    concatenates_S4x1000x1_S4x1000x1_S4x1000x2_d2 := by
  unfold targets p3_4
  after_results

theorem batch_at (b : Fin 4) (j : Fin 1000) :
    (after p3_4 V (Proc.devRef .tc main_v175) : IVec S4x1000x1 32) (ix3 b j 0) = BitVec.ofNat 32 b.val := by
  unfold p3_4
  after_reads_at
  exact Move.wrap_word (by omega) _

theorem word_at (b : Fin 4) (j : Fin 1000) (n : ℕ) (hn : n < 2 ^ 31)
    (h : (V (Proc.devRef .tc main_v156) : IVec S4x1000 32) (ix2 b j) = BitVec.ofNat 32 n) :
    (after p3_4 V (Proc.devRef .tc main_v176) : IVec S4x1000x1 32) (ix3 b j 0) = BitVec.ofNat 32 n := by
  unfold p3_4
  after_reads_at
  rw [h]
  exact Move.wrap_word hn _

theorem written_at (b : Fin 4) (j : Fin 1000) (k : Fin 6) :
    (after p3_4 V (Proc.devRef .tc main_v163) : FVec Ideal S4x1000x6 .f32) (ix3 b j k)
      = FloatOps.mulf ((V (Proc.devRef .tc main_v89) : FVec Ideal S4x1000x6 .f32) (ix3 b j k))
          (FloatOps.uitofp FTy.f32 ((V (Proc.devRef .tc main_v149_4) : IVec S4x1000 1) (ix2 b j)) : Ideal .f32) := by
  unfold p3_4
  after_reads_at
  trace_state

theorem result_eq : (after p3_4 V (Proc.devRef .tc main_v179) : FVec Ideal S4x300x6 .f32)
    = extractStridedSlice S4x300x6 ![0, 0, 0] (Host.scatter scatter_S4x301x6_S4x1000x2_S4x1000x6_2_01_01_2 (fun _ b => b)
        (broadcastInDim S4x301x6 ![] bcast_S_S4x301x6 (constant (F := Ideal) S_ .f32 0x00000000#32)) (targets V)
        (after p3_4 V (Proc.devRef .tc main_v163) : FVec Ideal S4x1000x6 .f32)) slices_S4x301x6_S4x300x6_0_0_0 := by
  unfold targets p3_4
  after_results

/-- Where each number is written. -/
theorem lands (idx : IVec S4x1000x2 32) (n : Fin 4 → Fin 1000 → ℕ) (hn : ∀ b j, n b j < 2 ^ 31)
    (h0 : ∀ (b : Fin 4) (j : Fin 1000), idx (ix3 b j 0) = BitVec.ofNat 32 b.val)
    (h1 : ∀ (b : Fin 4) (j : Fin 1000), idx (ix3 b j 1) = BitVec.ofNat 32 (n b j))
    (b b' : Fin 4) (j : Fin 1000) (k k' : Fin 6) (p : Fin 301) :
    scatter_S4x301x6_S4x1000x2_S4x1000x6_2_01_01_2.resultIdx? (ix3 b' j k') idx = some (ix3 b p k)
      ↔ b'.val = b.val ∧ n b' j = p.val ∧ k'.val = k.val := by
  rw [Move.resultIdx?_iff]
  have e0 : scatter_S4x301x6_S4x1000x2_S4x1000x6_2_01_01_2.siIdx (ix3 b' j k') ⟨0, by decide⟩ = ix3 b' j 0 :=
    funext fun a => by fin_cases a <;> rfl
  have e1 : scatter_S4x301x6_S4x1000x2_S4x1000x6_2_01_01_2.siIdx (ix3 b' j k') ⟨1, by decide⟩ = ix3 b' j 1 :=
    funext fun a => by fin_cases a <;> rfl
  have s0 : scatter_S4x301x6_S4x1000x2_S4x1000x6_2_01_01_2.start (ix3 b' j k') idx 0 = (b'.val : ℤ) := by
    show (idx (scatter_S4x301x6_S4x1000x2_S4x1000x6_2_01_01_2.siIdx (ix3 b' j k') ⟨0, _⟩)).toInt = _
    rw [e0, h0, Words.toInt_ofNat (by omega)]
  have s1 : scatter_S4x301x6_S4x1000x2_S4x1000x6_2_01_01_2.start (ix3 b' j k') idx 1 = (n b' j : ℤ) := by
    show (idx (scatter_S4x301x6_S4x1000x2_S4x1000x6_2_01_01_2.siIdx (ix3 b' j k') ⟨1, _⟩)).toInt = _
    rw [e1, h1, Words.toInt_ofNat (hn _ _)]
  have s2 : scatter_S4x301x6_S4x1000x2_S4x1000x6_2_01_01_2.start (ix3 b' j k') idx 2 = 0 := rfl
  have w0 : scatter_S4x301x6_S4x1000x2_S4x1000x6_2_01_01_2.window (ix3 b' j k') 0 = 0 := rfl
  have w1 : scatter_S4x301x6_S4x1000x2_S4x1000x6_2_01_01_2.window (ix3 b' j k') 1 = 0 := rfl
  have w2 : scatter_S4x301x6_S4x1000x2_S4x1000x6_2_01_01_2.window (ix3 b' j k') 2 = k'.val := rfl
  constructor
  · intro h
    have a0 := h 0
    have a1 := h 1
    have a2 := h 2
    rw [s0, w0] at a0
    rw [s1, w1] at a1
    rw [s2, w2] at a2
    change (b'.val : ℤ) + ((0 : ℕ) : ℤ) = (b.val : ℤ) at a0
    change (n b' j : ℤ) + ((0 : ℕ) : ℤ) = (p.val : ℤ) at a1
    change (0 : ℤ) + (k'.val : ℤ) = (k.val : ℤ) at a2
    omega
  · rintro ⟨a0, a1, a2⟩ a
    match a with
    | 0 =>
      rw [s0, w0]
      show (b'.val : ℤ) + ((0 : ℕ) : ℤ) = (b.val : ℤ)
      omega
    | 1 =>
      rw [s1, w1]
      show (n b' j : ℤ) + ((0 : ℕ) : ℤ) = (p.val : ℤ)
      omega
    | 2 =>
      rw [s2, w2]
      show (0 : ℤ) + (k'.val : ℤ) = (k.val : ℤ)
      omega

/-- A place is written to row `p` when it is kept with `p` kept places before it. -/
theorem slot_iff (P : ℕ → Prop) (j p : ℕ) (hp : p < 300) : slot P j = p ↔ P j ∧ Nat.count P (j + 1) = p + 1 := by
  unfold slot
  constructor
  · intro h
    split at h
    · rename_i hc
      have : Nat.count P (j + 1) = Nat.count P j + 1 := by rw [Nat.count_succ, if_pos hc.1]
      exact ⟨hc.1, by omega⟩
    · omega
  · rintro ⟨h, hc⟩
    rw [if_pos ⟨h, by omega⟩]
    omega

/-- No two places are written to one row. -/
theorem slot_inj (P : ℕ → Prop) (i j p : ℕ) (hi : P i ∧ Nat.count P (i + 1) = p + 1) (hj : P j ∧ Nat.count P (j + 1) = p + 1) : i = j := by
  have h1 := hi.2
  have h2 := hj.2
  rw [Nat.count_succ, if_pos hi.1] at h1
  rw [Nat.count_succ, if_pos hj.1] at h2
  exact Nat.count_injective hi.1 hj.1 (by omega)

/-- The rows written by a scatter of the kept places. -/
theorem scatter_rows (idx : IVec S4x1000x2 32) (upd : FVec Ideal S4x1000x6 .f32) (T : Fin 4 → ℕ → Box) (P : Fin 4 → ℕ → Prop)
    (h0 : ∀ (b : Fin 4) (j : Fin 1000), idx (ix3 b j 0) = BitVec.ofNat 32 b.val)
    (h1 : ∀ (b : Fin 4) (j : Fin 1000), idx (ix3 b j 1) = BitVec.ofNat 32 (slot (P b) j.val))
    (hu : ∀ (b : Fin 4) (j : Fin 1000) (k : Fin 6), P b j.val → upd (ix3 b j k) = T b j.val k) (b : Fin 4) (p : Fin 300) (k : Fin 6) :
    Host.scatter scatter_S4x301x6_S4x1000x2_S4x1000x6_2_01_01_2 (fun _ b => b)
        (broadcastInDim S4x301x6 ![] bcast_S_S4x301x6 (constant (F := Ideal) S_ .f32 0x00000000#32)) idx upd (ix3 b (p.castLE (by decide)) k)
      = out (T b) (P b) 1000 p.val k := by
  have hl := fun b' j k' => lands idx (fun b j => slot (P b) j.val) (fun b j => by have := slot_le (P b) j.val; omega) h0 h1 b b' j k k' (p.castLE (by decide))
  have hs := fun j => slot_iff (P b) j p.val p.isLt
  unfold out
  by_cases h : ∃ j : Fin 1000, P b j.val ∧ Nat.count (P b) (j.val + 1) = p.val + 1
  · obtain ⟨j, hj⟩ := h
    rw [Finset.sum_eq_single j.val, if_pos hj]
    · rw [← hu b j k hj.1]
      refine Move.scatter_hit _ _ _ _ _ (ix3 b j k) ((hl b j k).2 ⟨rfl, (hs _).2 hj, rfl⟩) ?_
      intro u hw
      obtain ⟨b', j', k', rfl⟩ : ∃ (b' : Fin 4) (j' : Fin 1000) (k' : Fin 6), u = ix3 b' j' k' := ⟨u 0, u 1, u 2, eq_ix3 u⟩
      obtain ⟨e0, e1, e2⟩ := (hl b' j' k').1 hw
      obtain rfl : b' = b := Fin.ext e0
      obtain rfl : k' = k := Fin.ext e2
      obtain rfl : j' = j := Fin.ext (slot_inj (P b') _ _ p.val ((hs _).1 e1) hj)
      rfl
    · intro i _ hne
      exact if_neg fun h => hne (slot_inj (P b) _ _ p.val h hj)
    · intro hn
      exact absurd (Finset.mem_range.2 j.isLt) hn
  · rw [Finset.sum_eq_zero, Move.scatter_miss]
    · exact zero_word
    · intro u hw
      obtain ⟨b', j', k', rfl⟩ : ∃ (b' : Fin 4) (j' : Fin 1000) (k' : Fin 6), u = ix3 b' j' k' := ⟨u 0, u 1, u 2, eq_ix3 u⟩
      obtain ⟨e0, e1, e2⟩ := (hl b' j' k').1 hw
      obtain rfl : b' = b := Fin.ext e0
      exact h ⟨j', (hs _).1 e1⟩
    · intro i hi
      exact if_neg fun hc => h ⟨⟨i, Finset.mem_range.1 hi⟩, hc⟩

theorem p31_keeps : after p3_1 V main_v149_4 = V main_v149_4 := by
  unfold p3_1
  after_results

theorem early_keeps : after p3_3 (after p3_2 (after p3_1 V)) main_v149_4 = V main_v149_4 ∧ after p3_3 (after p3_2 (after p3_1 V)) main_v89 = V main_v89 := by
  unfold p3_1 p3_2 p3_3
  constructor <;> after_results

/-- The result after the rounds. -/
theorem post_at (T : Fin 4 → ℕ → Box) (h : Round V T 1000) (b : Fin 4) (p : Fin 300) (k : Fin 6) :
    (after p3_4 (after p3_3 (after p3_2 (after p3_1 V))) (Proc.devRef .tc main_v179) : FVec Ideal S4x300x6 .f32) (ix3 b p k)
      = out (T b) (keep (T b) 1000) 1000 p.val k := by
  obtain ⟨k4, k89⟩ := early_keeps V
  have hw : ∀ (b : Fin 4) (j : Fin 1000), (after p3_3 (after p3_2 (after p3_1 V)) (Proc.devRef .tc main_v156) : IVec S4x1000 32) (ix2 b j)
      = BitVec.ofNat 32 (slot (keep (T b) 1000) j.val) :=
    slot_at (after p3_1 V) (fun b => keep (T b) 1000) (fun b j => (iff_of_eq (congrArg (· = 1#1) (congrFun (p31_keeps V) _))).trans (h.mask b j))
      (count_at V (fun b => keep (T b) 1000) h.mask)
  rw [result_eq]
  refine Eq.trans ?_ (scatter_rows (targets (after p3_3 (after p3_2 (after p3_1 V)))) (after p3_4 (after p3_3 (after p3_2 (after p3_1 V))) (Proc.devRef .tc main_v163)) T
    (fun b => keep (T b) 1000) (fun b j => ?_) (fun b j => ?_) (fun b j k hk => ?_) b p k)
  · generalize Host.scatter _ _ _ _ _ = x
    pointwise
    rfl
  · rw [targets_eq]
    refine Eq.trans ?_ (batch_at (after p3_3 (after p3_2 (after p3_1 V))) b j)
    pointwise
  · rw [targets_eq]
    refine Eq.trans ?_ (word_at (after p3_3 (after p3_2 (after p3_1 V))) b j _ (by have := slot_le (keep (T b) 1000) j.val; omega) (hw b j))
    pointwise
  · refine (written_at _ b j k).trans ?_
    have e89 := (congrFun k89 (ix3 b j k)).trans (h.boxes b j k)
    have e4 := (congrFun k4 (ix2 b j)).trans ((h.mask b j).2 hk)
    rw [Words.unum_bit, if_pos e4]
    exact (congrArg (· * (1 : EReal)) e89).trans (mul_one _)

end Cert.RefVal
end
end
-- ==== Proof.Final.lean ====
module

public import proofs.«01_k».proof.Defs
public import proofs.«01_k».proof.Proof.KerHost
public import proofs.«01_k».proof.Proof.KerRun
public import proofs.«01_k».proof.Proof.RefOut
public import proofs.«01_k».proof.Proof.Gen.KernelIdeal
public import proofs.«01_k».proof.Proof.Gen.ReferenceIdeal

/-! # The two programs agree

Both results are the same rows of the same table. -/

@[expose] public section

set_option maxRecDepth 16384

noncomputable section

namespace Cert.Final

open Idealize.ShloMosaic Idealize.ShloMosaic.TcCoe Idealize.SL.Sem
open Cert.Spec

/-- What the reference leaves in its result. -/
theorem result (m : (ℓ : Loc ReferenceIdeal.nD ReferenceIdeal.τ ReferenceIdeal.sig) → Buf (Elt Ideal) ℓ) (c : Dev ReferenceIdeal.nD)
    (b : Fin 4) (p : Fin 300) (k : Fin 6) :
    (Cert.RefRun.fin m c (Proc.devRef .tc ReferenceIdeal.main_v179) : FVec Ideal ReferenceIdeal.S4x300x6 .f32) (ix3 b p k)
      = out (table (m ((c.tc : Thread ReferenceIdeal.nD ReferenceIdeal.τ).loc ReferenceIdeal.main_arg0))
          (m ((c.tc : Thread ReferenceIdeal.nD ReferenceIdeal.τ).loc ReferenceIdeal.main_arg1)) b)
        (keep (table (m ((c.tc : Thread ReferenceIdeal.nD ReferenceIdeal.τ).loc ReferenceIdeal.main_arg0))
          (m ((c.tc : Thread ReferenceIdeal.nD ReferenceIdeal.τ).loc ReferenceIdeal.main_arg1)) b) 1000) 1000 p.val k :=
  Cert.RefVal.post_at _ _ (Cert.RefVal.rounds m c) b p k

theorem algebraic : algebraic_KernelIdeal_ReferenceIdeal := by
  intro m g m' g' _ hin
  refine ⟨fun c => KernelIdeal.Gen.W11 m g c (Proc.devRef .tc KernelIdeal.main_v26), Cert.KerRun.run m g, ?_⟩
  refine (θ_run ReferenceIdeal.defs _ _).mono (fun r h c => ⟨(h c ReferenceIdeal.main_v179 rfl).trans ?_,
    (h c ReferenceIdeal.main_arg0 rfl).trans (Cert.RefRun.fin_args m' c).1,
    (h c ReferenceIdeal.main_arg1 rfl).trans (Cert.RefRun.fin_args m' c).2⟩) (Cert.RefRun.run m' g')
  funext y
  obtain ⟨b, p, k, rfl⟩ : ∃ (b : Fin 4) (p : Fin 300) (k : Fin 6), y = ix3 b p k := ⟨y 0, y 1, y 2, eq_ix3 y⟩
  refine (result m' c b p k).trans ?_
  rw [(hin c).1, (hin c).2]
  exact (Cert.KerHost.result m g c b p k).symm

end Cert.Final
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.RefRun.frame m g, trivial, Cert.Final.algebraic⟩

end Cert.Proof

end
